-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x256 : Shape := ⟨2, ![256, 256]⟩
abbrev S768x512 : Shape := ⟨2, ![768, 512]⟩
abbrev S512 : Shape := ⟨1, ![512]⟩
abbrev S512x512 : Shape := ⟨2, ![512, 512]⟩
abbrev S512x3 : Shape := ⟨2, ![512, 3]⟩
abbrev S3 : Shape := ⟨1, ![3]⟩
abbrev S2x3x256x128 : Shape := ⟨4, ![2, 3, 256, 128]⟩
abbrev S2x3x128 : Shape := ⟨3, ![2, 3, 128]⟩
abbrev S2x256x256 : Shape := ⟨3, ![2, 256, 256]⟩
abbrev S2x256 : Shape := ⟨2, ![2, 256]⟩
abbrev S_ : Shape := ⟨0, ![]⟩

class Facts : Prop where
  bcast_S_S256x256 : S_.BroadcastsInDim S256x256 (![] : Fin 0 → Fin S256x256.rank)
  bcast_S_S768x512 : S_.BroadcastsInDim S768x512 (![] : Fin 0 → Fin S768x512.rank)
  bcast_S_S512 : S_.BroadcastsInDim S512 (![] : Fin 0 → Fin S512.rank)
  bcast_S_S512x512 : S_.BroadcastsInDim S512x512 (![] : Fin 0 → Fin S512x512.rank)
  bcast_S_S512x3 : S_.BroadcastsInDim S512x3 (![] : Fin 0 → Fin S512x3.rank)
  bcast_S_S3 : S_.BroadcastsInDim S3 (![] : Fin 0 → Fin S3.rank)

variable [Facts]

def fn_part1 {F : FTy → Type} [FloatOps F] (main_arg6 : FVec F S3 .f32) (main_v2 : IVec S256x256 1) (main_v5 : IVec S768x512 1) (main_v8 : IVec S512 1) (main_v11 : IVec S512x512 1) (main_v14 : IVec S512 1) (main_v17 : IVec S512x3 1) : IVec S256x256 1 × IVec S768x512 1 × IVec S512 1 × IVec S512x512 1 × IVec S512 1 × IVec S512x3 1 × IVec S3 1 :=
  let main_v18 : FVec F S3 .f32 := Host.absf main_arg6
  let main_cst_5 : FVec F S_ .f32 := constant S_ .f32 0x7F800000#32
  let main_v19 : FVec F S3 .f32 := broadcastInDim S3 ![] bcast_S_S3 main_cst_5
  let main_v20 : IVec S3 1 := cmpf .olt main_v18 main_v19
  (main_v2, main_v5, main_v8, main_v11, main_v14, main_v17, main_v20)

def fn {F : FTy → Type} [FloatOps F] (main_arg0 : FVec F S256x256 .f32) (main_arg1 : FVec F S768x512 .f32) (main_arg2 : FVec F S512 .f32) (main_arg3 : FVec F S512x512 .f32) (main_arg4 : FVec F S512 .f32) (main_arg5 : FVec F S512x3 .f32) (main_arg6 : FVec F S3 .f32) (main_arg7 : FVec F S2x3x256x128 .f32) (main_arg8 : FVec F S2x3x128 .f32) (main_arg9 : FVec F S2x3x256x128 .f32) (main_arg10 : FVec F S2x3x128 .f32) (main_arg11 : FVec F S2x256x256 .f32) (main_arg12 : FVec F S2x256 .f32) : IVec S256x256 1 × IVec S768x512 1 × IVec S512 1 × IVec S512x512 1 × IVec S512 1 × IVec S512x3 1 × IVec S3 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x3 .f32 := Host.absf main_arg5
  let main_cst_4 : FVec F S_ .f32 := constant S_ .f32 0x7F800000#32
  let main_v16 : FVec F S512x3 .f32 := broadcastInDim S512x3 ![] bcast_S_S512x3 main_cst_4
  let main_v17 : IVec S512x3 1 := cmpf .olt main_v15 main_v16
  fn_part1 (F := F) main_arg6 main_v2 main_v5 main_v8 main_v11 main_v14 main_v17
-- ==== Kernel.lean ====
abbrev S256x256 : Shape := ⟨2, ![256, 256]⟩
abbrev S768x512 : Shape := ⟨2, ![768, 512]⟩
abbrev S512 : Shape := ⟨1, ![512]⟩
abbrev S512x512 : Shape := ⟨2, ![512, 512]⟩
abbrev S512x3 : Shape := ⟨2, ![512, 3]⟩
abbrev S3 : Shape := ⟨1, ![3]⟩
abbrev S2x3x256x128 : Shape := ⟨4, ![2, 3, 256, 128]⟩
abbrev S2x3x128 : Shape := ⟨3, ![2, 3, 128]⟩
abbrev S2x256x256 : Shape := ⟨3, ![2, 256, 256]⟩
abbrev S2x256 : Shape := ⟨2, ![2, 256]⟩
abbrev S256x512 : Shape := ⟨2, ![256, 512]⟩
abbrev S512x256 : Shape := ⟨2, ![512, 256]⟩
abbrev S4x64x256 : Shape := ⟨3, ![4, 64, 256]⟩
abbrev S4x256x64 : Shape := ⟨3, ![4, 256, 64]⟩
abbrev S512x1 : Shape := ⟨2, ![512, 1]⟩
abbrev S3x512 : Shape := ⟨2, ![3, 512]⟩
abbrev S3x1 : Shape := ⟨2, ![3, 1]⟩
abbrev S3x65536 : Shape := ⟨2, ![3, 65536]⟩
abbrev S1x256x64 : Shape := ⟨3, ![1, 256, 64]⟩
abbrev S3x16384 : Shape := ⟨2, ![3, 16384]⟩
abbrev S256x64 : Shape := ⟨2, ![256, 64]⟩
abbrev S512x64 : Shape := ⟨2, ![512, 64]⟩
abbrev S256x1 : Shape := ⟨2, ![256, 1]⟩
abbrev S256x16384 : Shape := ⟨2, ![256, 16384]⟩
abbrev S512x16384 : Shape := ⟨2, ![512, 16384]⟩
abbrev S1x16384 : Shape := ⟨2, ![1, 16384]⟩
abbrev S3x256x256 : Shape := ⟨3, ![3, 256, 256]⟩
abbrev S1x256x256 : Shape := ⟨3, ![1, 256, 256]⟩
abbrev S1x1x256x128 : Shape := ⟨4, ![1, 1, 256, 128]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩
abbrev S1x256 : Shape := ⟨2, ![1, 256]⟩
abbrev S256 : Shape := ⟨1, ![256]⟩

abbrev nBuf : Space → Nat
  | .hbm => 36
  | .vmem => 23
  | .smem => 0
  | _ => 0

abbrev bufTy : (tb : Table) → Fin (tcTables nBuf tb) → BufTy
  | .hbm, ⟨0, _⟩ => ⟨S256x256, .f32⟩
  | .hbm, ⟨1, _⟩ => ⟨S768x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x3, .f32⟩
  | .hbm, ⟨6, _⟩ => ⟨S3, .f32⟩
  | .hbm, ⟨7, _⟩ => ⟨S2x3x256x128, .f32⟩
  | .hbm, ⟨8, _⟩ => ⟨S2x3x128, .f32⟩
  | .hbm, ⟨9, _⟩ => ⟨S2x3x256x128, .f32⟩
  | .hbm, ⟨10, _⟩ => ⟨S2x3x128, .f32⟩
  | .hbm, ⟨11, _⟩ => ⟨S2x256x256, .f32⟩
  | .hbm, ⟨12, _⟩ => ⟨S2x256, .f32⟩
  | .hbm, ⟨13, _⟩ => ⟨S256x256, .bf16⟩
  | .hbm, ⟨14, _⟩ => ⟨S256x256, .bf16⟩
  | .hbm, ⟨15, _⟩ => ⟨S256x512, .f32⟩
  | .hbm, ⟨16, _⟩ => ⟨S512x256, .f32⟩
  | .hbm, ⟨17, _⟩ => ⟨S512x256, .bf16⟩
  | .hbm, ⟨18, _⟩ => ⟨S256x512, .f32⟩
  | .hbm, ⟨19, _⟩ => ⟨S512x256, .f32⟩
  | .hbm, ⟨20, _⟩ => ⟨S512x256, .bf16⟩
  | .hbm, ⟨21, _⟩ => ⟨S256x512, .f32⟩
  | .hbm, ⟨22, _⟩ => ⟨S512x256, .f32⟩
  | .hbm, ⟨23, _⟩ => ⟨S512x256, .bf16⟩
  | .hbm, ⟨24, _⟩ => ⟨S4x64x256, .bf16⟩
  | .hbm, ⟨25, _⟩ => ⟨S4x256x64, .bf16⟩
  | .hbm, ⟨26, _⟩ => ⟨S512x1, .f32⟩
  | .hbm, ⟨27, _⟩ => ⟨S512x512, .f32⟩
  | .hbm, ⟨28, _⟩ => ⟨S512x512, .bf16⟩
  | .hbm, ⟨29, _⟩ => ⟨S512x1, .f32⟩
  | .hbm, ⟨30, _⟩ => ⟨S3x512, .f32⟩
  | .hbm, ⟨31, _⟩ => ⟨S3x512, .bf16⟩
  | .hbm, ⟨32, _⟩ => ⟨S3x1, .f32⟩
  | .hbm, ⟨33, _⟩ => ⟨S3x65536, .bf16⟩
  | .hbm, ⟨34, _⟩ => ⟨S3x256x256, .bf16⟩
  | .hbm, ⟨35, _⟩ => ⟨S256x256, .f32⟩
  | .local _ .vmem, ⟨0, _⟩ => ⟨S256x256, .bf16⟩
  | .local _ .vmem, ⟨1, _⟩ => ⟨S1x256x64, .bf16⟩
  | .local _ .vmem, ⟨2, _⟩ => ⟨S1x256x64, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1, .f32⟩
  | .local _ .vmem, ⟨7, _⟩ => ⟨S512x512, .bf16⟩
  | .local _ .vmem, ⟨8, _⟩ => ⟨S512x1, .f32⟩
  | .local _ .vmem, ⟨9, _⟩ => ⟨S3x512, .bf16⟩
  | .local _ .vmem, ⟨10, _⟩ => ⟨S3x1, .f32⟩
  | .local _ .vmem, ⟨11, _⟩ => ⟨S3x16384, .bf16⟩
  | .local _ .vmem, ⟨12, _⟩ => ⟨S3x16384, .bf16⟩
  | .local _ .vmem, ⟨13, _⟩ => ⟨S512x256, .bf16⟩
  | .local _ .vmem, ⟨14, _⟩ => ⟨S3x256x256, .bf16⟩
  | .local _ .vmem, ⟨15, _⟩ => ⟨S256x256, .f32⟩
  | .local _ .vmem, ⟨16, _⟩ => ⟨S2x3x256x128, .f32⟩
  | .local _ .vmem, ⟨17, _⟩ => ⟨S2x3x128, .f32⟩
  | .local _ .vmem, ⟨18, _⟩ => ⟨S2x3x256x128, .f32⟩
  | .local _ .vmem, ⟨19, _⟩ => ⟨S2x3x128, .f32⟩
  | .local _ .vmem, ⟨20, _⟩ => ⟨S2x256x256, .f32⟩
  | .local _ .vmem, ⟨21, _⟩ => ⟨S2x256, .f32⟩
  | .local _ .vmem, ⟨22, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := .none

abbrev stage1_0 : Fin 1 → Memref sig .tc .vmem S3x256x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x3x256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x3x256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S256x256 : Shape := ⟨2, ![256, 256]⟩
abbrev S768x512 : Shape := ⟨2, ![768, 512]⟩
abbrev S512 : Shape := ⟨1, ![512]⟩
abbrev S512x512 : Shape := ⟨2, ![512, 512]⟩
abbrev S512x3 : Shape := ⟨2, ![512, 3]⟩
abbrev S3 : Shape := ⟨1, ![3]⟩
abbrev S2x3x256x128 : Shape := ⟨4, ![2, 3, 256, 128]⟩
abbrev S2x3x128 : Shape := ⟨3, ![2, 3, 128]⟩
abbrev S2x256x256 : Shape := ⟨3, ![2, 256, 256]⟩
abbrev S2x256 : Shape := ⟨2, ![2, 256]⟩
abbrev S1x256x256 : Shape := ⟨3, ![1, 256, 256]⟩
abbrev S256x256x256 : Shape := ⟨3, ![256, 256, 256]⟩
abbrev S256x1x256 : Shape := ⟨3, ![256, 1, 256]⟩
abbrev S256x256x768 : Shape := ⟨3, ![256, 256, 768]⟩
abbrev S256x256x512 : Shape := ⟨3, ![256, 256, 512]⟩
abbrev S1x1x512 : Shape := ⟨3, ![1, 1, 512]⟩
abbrev S_ : Shape := ⟨0, ![]⟩
abbrev S256x256x3 : Shape := ⟨3, ![256, 256, 3]⟩
abbrev S1x1x3 : Shape := ⟨3, ![1, 1, 3]⟩
abbrev S256x256x1 : Shape := ⟨3, ![256, 256, 1]⟩
abbrev S1x1x256x128 : Shape := ⟨4, ![1, 1, 256, 128]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩
abbrev S1x256 : Shape := ⟨2, ![1, 256]⟩
abbrev S256 : Shape := ⟨1, ![256]⟩

abbrev nBuf : Space → Nat
  | .hbm => 233
  | .vmem => 0
  | .smem => 0
  | _ => 0

abbrev hbmTy0_0 (i : Nat) : BufTy := match i % 128 with
  | 0 => ⟨S256x256, .f32⟩
  | 1 => ⟨S768x512, .f32⟩
  | 2 => ⟨S512, .f32⟩
  | 3 => ⟨S512x512, .f32⟩
  | 4 => ⟨S512, .f32⟩
  | 5 => ⟨S512x3, .f32⟩
  | 6 => ⟨S3, .f32⟩
  | 7 => ⟨S2x3x256x128, .f32⟩
  | 8 => ⟨S2x3x128, .f32⟩
  | 9 => ⟨S2x3x256x128, .f32⟩
  | 10 => ⟨S2x3x128, .f32⟩
  | 11 => ⟨S2x256x256, .f32⟩
  | 12 => ⟨S2x256, .f32⟩
  | 13 => ⟨S1x256x256, .f32⟩
  | 14 => ⟨S256x256x256, .f32⟩
  | 15 => ⟨S256x1x256, .f32⟩
  | 16 => ⟨S256x256x256, .f32⟩
  | 17 => ⟨S256x256x256, .f32⟩
  | 18 => ⟨S256x256x768, .f32⟩
  | 19 => ⟨S256x256x512, .f32⟩
  | 20 => ⟨S1x1x512, .f32⟩
  | 21 => ⟨S256x256x512, .f32⟩
  | 22 => ⟨S256x256x512, .f32⟩
  | 23 => ⟨S_, .f32⟩
  | 24 => ⟨S256x256x512, .f32⟩
  | 25 => ⟨S256x256x512, .f32⟩
  | 26 => ⟨S256x256x512, .f32⟩
  | 27 => ⟨S1x1x512, .f32⟩
  | 28 => ⟨S256x256x512, .f32⟩
  | 29 => ⟨S256x256x512, .f32⟩
  | 30 => ⟨S_, .f32⟩
  | 31 => ⟨S256x256x512, .f32⟩
  | 32 => ⟨S256x256x512, .f32⟩
  | 33 => ⟨S256x256x3, .f32⟩
  | 34 => ⟨S1x1x3, .f32⟩
  | 35 => ⟨S256x256x3, .f32⟩
  | 36 => ⟨S256x256x3, .f32⟩
  | 37 => ⟨S_, .f32⟩
  | 38 => ⟨S256x256, .f32⟩
  | 39 => ⟨S_, .f32⟩
  | 40 => ⟨S256x256, .f32⟩
  | 41 => ⟨S256x256, .f32⟩
  | 42 => ⟨S256x256x1, .f32⟩
  | 43 => ⟨S256x256x3, .f32⟩
  | 44 => ⟨S256x256x3, .f32⟩
  | 45 => ⟨S256x256x3, .f32⟩
  | 46 => ⟨S_, .f32⟩
  | 47 => ⟨S256x256, .f32⟩
  | 48 => ⟨S256x256x1, .f32⟩
  | 49 => ⟨S256x256x3, .f32⟩
  | 50 => ⟨S256x256x3, .f32⟩
  | 51 => ⟨S256x256, .i32⟩
  | 52 => ⟨S256x256, .i32⟩
  | 53 => ⟨S_, .i32⟩
  | 54 => ⟨S256x256, .i32⟩
  | 55 => ⟨S256x256, .i32⟩
  | 56 => ⟨S256x256, .i1⟩
  | 57 => ⟨S256x256, .f32⟩
  | 58 => ⟨S_, .f32⟩
  | 59 => ⟨S256x256, .f32⟩
  | 60 => ⟨S256x256, .f32⟩
  | 61 => ⟨S_, .f32⟩
  | 62 => ⟨S256x256, .f32⟩
  | 63 => ⟨S256x256x1, .f32⟩
  | 64 => ⟨S256x256, .f32⟩
  | 65 => ⟨S256x256, .f32⟩
  | 66 => ⟨S1x1x256x128, .f32⟩
  | 67 => ⟨S256x128, .f32⟩
  | 68 => ⟨S256x128, .f32⟩
  | 69 => ⟨S256x128, .f32⟩
  | 70 => ⟨S1x1x128, .f32⟩
  | 71 => ⟨S128, .f32⟩
  | 72 => ⟨S1x128, .f32⟩
  | 73 => ⟨S256x128, .f32⟩
  | 74 => ⟨S256x128, .f32⟩
  | 75 => ⟨S256x256, .f32⟩
  | 76 => ⟨S1x1x256x128, .f32⟩
  | 77 => ⟨S256x128, .f32⟩
  | 78 => ⟨S256x128, .f32⟩
  | 79 => ⟨S256x128, .f32⟩
  | 80 => ⟨S1x1x128, .f32⟩
  | 81 => ⟨S128, .f32⟩
  | 82 => ⟨S1x128, .f32⟩
  | 83 => ⟨S256x128, .f32⟩
  | 84 => ⟨S256x128, .f32⟩
  | 85 => ⟨S256x256, .f32⟩
  | 86 => ⟨S256x256, .f32⟩
  | 87 => ⟨S256x256x1, .f32⟩
  | 88 => ⟨S256x256, .f32⟩
  | 89 => ⟨S256x256, .f32⟩
  | 90 => ⟨S1x1x256x128, .f32⟩
  | 91 => ⟨S256x128, .f32⟩
  | 92 => ⟨S256x128, .f32⟩
  | 93 => ⟨S256x128, .f32⟩
  | 94 => ⟨S1x1x128, .f32⟩
  | 95 => ⟨S128, .f32⟩
  | 96 => ⟨S1x128, .f32⟩
  | 97 => ⟨S256x128, .f32⟩
  | 98 => ⟨S256x128, .f32⟩
  | 99 => ⟨S256x256, .f32⟩
  | 100 => ⟨S1x1x256x128, .f32⟩
  | 101 => ⟨S256x128, .f32⟩
  | 102 => ⟨S256x128, .f32⟩
  | 103 => ⟨S256x128, .f32⟩
  | 104 => ⟨S1x1x128, .f32⟩
  | 105 => ⟨S128, .f32⟩
  | 106 => ⟨S1x128, .f32⟩
  | 107 => ⟨S256x128, .f32⟩
  | 108 => ⟨S256x128, .f32⟩
  | 109 => ⟨S256x256, .f32⟩
  | 110 => ⟨S256x256, .f32⟩
  | 111 => ⟨S256x256x1, .f32⟩
  | 112 => ⟨S256x256, .f32⟩
  | 113 => ⟨S256x256, .f32⟩
  | 114 => ⟨S1x1x256x128, .f32⟩
  | 115 => ⟨S256x128, .f32⟩
  | 116 => ⟨S256x128, .f32⟩
  | 117 => ⟨S256x128, .f32⟩
  | 118 => ⟨S1x1x128, .f32⟩
  | 119 => ⟨S128, .f32⟩
  | 120 => ⟨S1x128, .f32⟩
  | 121 => ⟨S256x128, .f32⟩
  | 122 => ⟨S256x128, .f32⟩
  | 123 => ⟨S256x256, .f32⟩
  | 124 => ⟨S1x1x256x128, .f32⟩
  | 125 => ⟨S256x128, .f32⟩
  | 126 => ⟨S256x128, .f32⟩
  | 127 => ⟨S256x128, .f32⟩
  | _ => ⟨S256x256, .f32⟩

abbrev hbmTy0_1 (i : Nat) : BufTy := match i % 128 with
  | 0 => ⟨S1x1x128, .f32⟩
  | 1 => ⟨S128, .f32⟩
  | 2 => ⟨S1x128, .f32⟩
  | 3 => ⟨S256x128, .f32⟩
  | 4 => ⟨S256x128, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S1x256x256, .f32⟩
  | 11 => ⟨S256x256, .f32⟩
  | 12 => ⟨S256x256, .f32⟩
  | 13 => ⟨S1x256, .f32⟩
  | 14 => ⟨S256, .f32⟩
  | 15 => ⟨S1x256, .f32⟩
  | 16 => ⟨S256x256, .f32⟩
  | 17 => ⟨S256x256, .f32⟩
  | 18 => ⟨S256x256, .f32⟩
  | 19 => ⟨S_, .f32⟩
  | 20 => ⟨S256x256, .f32⟩
  | 21 => ⟨S256x256x1, .f32⟩
  | 22 => ⟨S256x256, .f32⟩
  | 23 => ⟨S256x256, .f32⟩
  | 24 => ⟨S1x1x256x128, .f32⟩
  | 25 => ⟨S256x128, .f32⟩
  | 26 => ⟨S256x128, .f32⟩
  | 27 => ⟨S256x128, .f32⟩
  | 28 => ⟨S1x1x128, .f32⟩
  | 29 => ⟨S128, .f32⟩
  | 30 => ⟨S1x128, .f32⟩
  | 31 => ⟨S256x128, .f32⟩
  | 32 => ⟨S256x128, .f32⟩
  | 33 => ⟨S256x256, .f32⟩
  | 34 => ⟨S1x1x256x128, .f32⟩
  | 35 => ⟨S256x128, .f32⟩
  | 36 => ⟨S256x128, .f32⟩
  | 37 => ⟨S256x128, .f32⟩
  | 38 => ⟨S1x1x128, .f32⟩
  | 39 => ⟨S128, .f32⟩
  | 40 => ⟨S1x128, .f32⟩
  | 41 => ⟨S256x128, .f32⟩
  | 42 => ⟨S256x128, .f32⟩
  | 43 => ⟨S256x256, .f32⟩
  | 44 => ⟨S256x256, .f32⟩
  | 45 => ⟨S256x256x1, .f32⟩
  | 46 => ⟨S256x256, .f32⟩
  | 47 => ⟨S256x256, .f32⟩
  | 48 => ⟨S1x1x256x128, .f32⟩
  | 49 => ⟨S256x128, .f32⟩
  | 50 => ⟨S256x128, .f32⟩
  | 51 => ⟨S256x128, .f32⟩
  | 52 => ⟨S1x1x128, .f32⟩
  | 53 => ⟨S128, .f32⟩
  | 54 => ⟨S1x128, .f32⟩
  | 55 => ⟨S256x128, .f32⟩
  | 56 => ⟨S256x128, .f32⟩
  | 57 => ⟨S256x256, .f32⟩
  | 58 => ⟨S1x1x256x128, .f32⟩
  | 59 => ⟨S256x128, .f32⟩
  | 60 => ⟨S256x128, .f32⟩
  | 61 => ⟨S256x128, .f32⟩
  | 62 => ⟨S1x1x128, .f32⟩
  | 63 => ⟨S128, .f32⟩
  | 64 => ⟨S1x128, .f32⟩
  | 65 => ⟨S256x128, .f32⟩
  | 66 => ⟨S256x128, .f32⟩
  | 67 => ⟨S256x256, .f32⟩
  | 68 => ⟨S256x256, .f32⟩
  | 69 => ⟨S256x256x1, .f32⟩
  | 70 => ⟨S256x256, .f32⟩
  | 71 => ⟨S256x256, .f32⟩
  | 72 => ⟨S1x1x256x128, .f32⟩
  | 73 => ⟨S256x128, .f32⟩
  | 74 => ⟨S256x128, .f32⟩
  | 75 => ⟨S256x128, .f32⟩
  | 76 => ⟨S1x1x128, .f32⟩
  | 77 => ⟨S128, .f32⟩
  | 78 => ⟨S1x128, .f32⟩
  | 79 => ⟨S256x128, .f32⟩
  | 80 => ⟨S256x128, .f32⟩
  | 81 => ⟨S256x256, .f32⟩
  | 82 => ⟨S1x1x256x128, .f32⟩
  | 83 => ⟨S256x128, .f32⟩
  | 84 => ⟨S256x128, .f32⟩
  | 85 => ⟨S256x128, .f32⟩
  | 86 => ⟨S1x1x128, .f32⟩
  | 87 => ⟨S128, .f32⟩
  | 88 => ⟨S1x128, .f32⟩
  | 89 => ⟨S256x128, .f32⟩
  | 90 => ⟨S256x128, .f32⟩
  | 91 => ⟨S256x256, .f32⟩
  | 92 => ⟨S256x256, .f32⟩
  | 93 => ⟨S_, .f32⟩
  | 94 => ⟨S256x256, .f32⟩
  | 95 => ⟨S256x256, .f32⟩
  | 96 => ⟨S1x256x256, .f32⟩
  | 97 => ⟨S256x256, .f32⟩
  | 98 => ⟨S256x256, .f32⟩
  | 99 => ⟨S1x256, .f32⟩
  | 100 => ⟨S256, .f32⟩
  | 101 => ⟨S1x256, .f32⟩
  | 102 => ⟨S256x256, .f32⟩
  | 103 => ⟨S256x256, .f32⟩
  | 104 => ⟨S256x256, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_call2_cst : Ref sig .tc := ⟨.hbm, 135, rfl⟩
abbrev main_call2_v0 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_4 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_call3_cst : Ref sig .tc := ⟨.hbm, 221, rfl⟩
abbrev main_call3_v0 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩

abbrev nD : Nat := 1
abbrev τ : Topo := Topo.v7x

variable {F : FTy → Type} [FloatOps F]
-- ==== Proof.ProbsBody.lean ====
/- The probability kernel's body as a function of vectors: what one grid point stores, written block by block, and the
   two runs of the printed body (first point, which also fills the carried scratch; later points, which only read it). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Tactic
public import Idealize.ShloMosaic.Lib.WordCmp

@[expose] public section

set_option maxRecDepth 16384

noncomputable section

namespace Cert.KernelIdeal.Probs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The stored block -/

/-- One column of the 64-row block of features. -/
theorem colSlices (a : Fin 64) : S256x64.Slices ![0, a.val] S256x1 := by revert a; decide
/-- The 256 columns of block `a`. -/
theorem blkSlices (a : Fin 64) : S512x16384.Slices ![0, a.val * 256] S512x256 := by revert a; decide
/-- One column of the bias-and-row term. -/
theorem rowSlices (a : Fin 64) : S512x64.Slices ![0, a.val] S512x1 := by revert a; decide
/-- 64 blocks of 256 columns, 256 rows, side by side. -/
theorem pairCat {α : Type} (f : Fin 64 → S256x256.Idx → α) :
    Shape.Concatenates ((List.ofFn fun a : Fin 64 => (⟨S256x256, f a⟩ : (s : Shape) × (s.Idx → α))).map (·.1)) S256x16384 1 := by
  rw [List.map_ofFn]
  exact (by decide : Shape.Concatenates (List.ofFn fun _ : Fin 64 => S256x256) S256x16384 1)
/-- 64 blocks of 256 columns, 512 rows, side by side. -/
theorem hidCat {α : Type} (f : Fin 64 → S512x256.Idx → α) :
    Shape.Concatenates ((List.ofFn fun a : Fin 64 => (⟨S512x256, f a⟩ : (s : Shape) × (s.Idx → α))).map (·.1)) S512x16384 1 := by
  rw [List.map_ofFn]
  exact (by decide : Shape.Concatenates (List.ofFn fun _ : Fin 64 => S512x256) S512x16384 1)

/-- The products of every feature column with feature column `a` of the block. -/
def pairBlk (xi : FVec F S256x64 .bf16) (xT : FVec F S256x256 .bf16) (a : Fin 64) : FVec F S256x256 .bf16 :=
  mulf xT (broadcastTo S256x256 (extractStridedSlice S256x1 ![0, a.val] xi (colSlices a)) broadcasts_S256x1_S256x256)

/-- The 64 product blocks side by side. -/
def pairs (xi : FVec F S256x64 .bf16) (xT : FVec F S256x256 .bf16) : FVec F S256x16384 .bf16 :=
  concatenate S256x16384 1 (List.ofFn fun a : Fin 64 => (⟨S256x256, pairBlk xi xT a⟩ : (s : Shape) × (s.Idx → F .bf16))) (pairCat _)

/-- The first layer's product part. -/
def prodT (w0c : Vec F S512x256 .bf16) (p : FVec F S256x16384 .bf16) : FVec F S512x16384 .bf16 :=
  truncf .bf16 (matmul dot_S512x256_S256x16384_S512x16384_1_0_0_1_n_n none (shapeCast S512x256 w0c shapeCasts_S512x256_S512x256) p
    (constant S512x16384 .f32 0x00000000#32)) bitsLt_bf16_f32

/-- The first layer's output on block `a`. -/
def hidBlk (xbb : FVec F S512x64 .bf16) (h : FVec F S512x16384 .bf16) (xa : Vec F S512x256 .bf16) (a : Fin 64) : FVec F S512x256 .bf16 :=
  maximumf (addf (extractStridedSlice S512x256 ![0, a.val * 256] h (blkSlices a))
      (addf xa (broadcastTo S512x256 (extractStridedSlice S512x1 ![0, a.val] xbb (rowSlices a)) broadcasts_S512x1_S512x256)))
    (broadcast S512x256 (Scalar.ofBits .bf16 0x0000#16))

/-- The first layer's output, the 64 blocks side by side. -/
def hid (xbb : FVec F S512x64 .bf16) (h : FVec F S512x16384 .bf16) (xa : Vec F S512x256 .bf16) : FVec F S512x16384 .bf16 :=
  concatenate S512x16384 1 (List.ofFn fun a : Fin 64 => (⟨S512x256, hidBlk xbb h xa a⟩ : (s : Shape) × (s.Idx → F .bf16))) (hidCat _)

/-- The three scores of every pair, from the first layer's output. -/
def scores (h : FVec F S512x16384 .bf16) (w1 : Vec F S512x512 .bf16) (b1 : Vec F S512x1 .f32) (wo : Vec F S3x512 .bf16) (bo : Vec F S3x1 .f32) :
    FVec F S3x16384 .f32 :=
  addf (matmul dot_S3x512_S512x16384_S3x16384_1_0_0_1_n_n none (shapeCast S3x512 wo shapeCasts_S3x512_S3x512)
      (maximumf (addf (truncf .bf16 (matmul dot_S512x512_S512x16384_S512x16384_1_0_0_1_n_n none (shapeCast S512x512 w1 shapeCasts_S512x512_S512x512) h
            (constant S512x16384 .f32 0x00000000#32)) bitsLt_bf16_f32)
          (broadcastTo S512x16384 (truncf .bf16 (shapeCast S512x1 b1 shapeCasts_S512x1_S512x1) bitsLt_bf16_f32) broadcasts_S512x1_S512x16384))
        (broadcast S512x16384 (Scalar.ofBits .bf16 0x0000#16)))
      (constant S3x16384 .f32 0x00000000#32))
    (broadcastTo S3x16384 (shapeCast S3x1 bo shapeCasts_S3x1_S3x1) broadcasts_S3x1_S3x16384)

/-- The masked softmax over the three scores. -/
def softmax3 (i : BitVec 32) (s : FVec F S3x16384 .f32) : FVec F S3x16384 .bf16 :=
  let s0 : FVec F S1x16384 .f32 := extractStridedSlice S1x16384 ![0, 0] s slices_S3x16384_o0_0_S1x16384
  let s1 : FVec F S1x16384 .f32 := extractStridedSlice S1x16384 ![1, 0] s slices_S3x16384_o1_0_S1x16384
  let s2 : FVec F S1x16384 .f32 := extractStridedSlice S1x16384 ![2, 0] s slices_S3x16384_o2_0_S1x16384
  k0_pay1 i s1 s2 (maximumf (maximumf s0 s1) s2) (subf s0 (maximumf (maximumf s0 s1) s2))

/-- What grid point `i` stores, from its input blocks and the carried scratch `xa`. -/
def out (i : grid0.Coords) (x0 : Vec F S256x256 .bf16) (x1 : Vec F S1x256x64 .bf16) (x3 : Vec F S512x256 .bf16) (x4 : Vec F S512x256 .bf16)
    (x5 : Vec F S512x1 .f32) (x6 : Vec F S512x512 .bf16) (x7 : Vec F S512x1 .f32) (x8 : Vec F S3x512 .bf16) (x9 : Vec F S3x1 .f32)
    (xa : Vec F S512x256 .bf16) : Vec F S3x16384 .bf16 :=
  softmax3 (BitVec.ofNat 32 (i 0).val)
    (scores (hid (k0_pay4 x1 x3 x5) (prodT x4 (pairs (k0_pay3 x1) (k0_pay5 x0))) xa) x6 x7 x8 x9)

end Cert.KernelIdeal.Probs

end
-- ==== Proof.ProbsRun.lean ====
/- The two runs of the probability kernel's printed body: at the first grid point, which also fills the carried scratch,
   and at a later point, which only reads it. -/
module

public import proofs.«01_k».proof.Proof.ProbsBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Probs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The accesses and the branch -/

abbrev rOut : Rect S3x16384 := Rect.unit (s := S3x16384) ![0, 0] S3x16384.size inb_S3x16384_S3x16384_0_0
abbrev rScr : Rect S512x256 := Rect.unit (s := S512x256) ![0, 0] S512x256.size inb_S512x256_S512x256_0_0

/-- The one store of a point covers its output block. -/
theorem outCover (p : Vec F S3x16384 .bf16) (y : S3x16384.Idx) :
    ∃ pc ∈ ([⟨rOut, p⟩] : List (View.Piece (Elt F) S3x16384 .bf16)), y ∈ pc.1.set :=
  View.cover_of_tiledL [⟨rOut, p⟩] S3x16384.size (by sl_kernel_rfl) y
/-- The first point's store covers the scratch. -/
theorem scrCover (p : Vec F S512x256 .bf16) (y : S512x256.Idx) :
    ∃ pc ∈ ([⟨rScr, p⟩] : List (View.Piece (Elt F) S512x256 .bf16)), y ∈ pc.1.set :=
  View.cover_of_tiledL [⟨rScr, p⟩] S512x256.size (by sl_kernel_rfl) y

/-- The body's branch: taken at the grid's first point. -/
abbrev first (i : grid0.Coords) : Prop :=
  Scalar.cmpi .ne (Scalar.extui (Scalar.cmpi .eq (BitVec.ofNat 32 (i 0).val) 0#32)) 0#32 = 1#1

/-- The offsets of a load at the origin are zero. -/
theorem zero2 : ∀ a, (![0, 0] : Fin 2 → Nat) a = 0 := by decide
/-- The same of three offsets. -/
theorem zero3 : ∀ a, (![0, 0, 0] : Fin 3 → Nat) a = 0 := by decide

/-- A load through the whole-shape rectangle of a whole buffer reads its contents. -/
theorem load_whole {S : Shape} {e : EltTy} (M : Memref sig .tc .vmem S e) (h : M.IsWhole) (x : Vec F S e) {off : Fin S.rank → Nat}
    (inb : ∀ a, off a + S.size a ≤ S.size a) (hz : ∀ a, off a = 0) :
    View.readAt (Elt F) M.view (Rect.unit off S.size inb).toLoadRect (h.unread x) = x := by
  show View.ld (M.view.read (Elt F) (h.unread x)) (Rect.unit off S.size inb) = x
  rw [h.read_unread]
  exact View.ld_unit_lit inb x hz

/-! ## The two runs -/

set_option maxHeartbeats 1000000 in
/-- The body at the first point: the scratch is filled from the first two weight blocks, the output block is `out` over it. -/
theorem run_first (c : Dev nD) (i : grid0.Coords) (arg1 : Memref sig .tc .vmem S256x256 .bf16) (harg1 : arg1.IsWhole) (arg2 : Memref sig .tc .vmem S1x256x64 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S3x512 .bf16) (harg9 : arg9.IsWhole) (arg10 : Memref sig .tc .vmem S3x1 .f32) (harg10 : arg10.IsWhole) (arg11 : Memref sig .tc .vmem S3x16384 .bf16) (harg11 : arg11.IsWhole) (arg12 : Memref sig .tc .vmem S512x256 .bf16) (harg12 : arg12.IsWhole)
    (hc : first i) (x0 : Vec F S256x256 .bf16) (x1 : Vec F S1x256x64 .bf16) (x2 : Vec F S512x256 .bf16) (x3 : Vec F S512x256 .bf16) (x4 : Vec F S512x256 .bf16) (x5 : Vec F S512x1 .f32) (x6 : Vec F S512x512 .bf16) (x7 : Vec F S512x1 .f32) (x8 : Vec F S3x512 .bf16) (x9 : Vec F S3x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out i x0 x1 x3 x4 x5 x6 x7 x8 x9 (k0_pay2 x2 x0)) ∗ owns (c : Thread nD τ) arg12 fullShare (k0_pay2 x2 x0)) -∗ K ⟨⟩))
      ⊢ wp frame (wpE (defs₀ (F := F)) Variants.none c none) E (cc0__probs_kernel i arg1 harg1 arg2 harg2 arg3 harg3 arg4 harg4 arg5 harg5 arg6 harg6 arg7 harg7 arg8 harg8 arg9 harg9 arg10 harg10 arg11 harg11 arg12 harg12) K := by
  simp only [cc0__probs_kernel_eq_skeleton]; unfold cc0__probs_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (View.read_writes_eq_canon _ _ _ (outCover _)).trans ?_
    refine (View.canon_cons_unit_lit _ _ [] (by decide)).trans ?_
    refine (show _ = out i (View.readAt (Elt F) arg1.view (Rect.unit (s := S256x256) ![0, 0] S256x256.size inb_S256x256_S256x256_0_0).toLoadRect (harg1.unread x0)) (View.readAt (Elt F) arg2.view (Rect.unit (s := S1x256x64) ![0, 0, 0] S1x256x64.size inb_S1x256x64_S1x256x64_0_0_0).toLoadRect (harg2.unread x1)) (View.readAt (Elt F) arg4.view (Rect.unit (s := S512x256) ![0, 0] S512x256.size inb_S512x256_S512x256_0_0).toLoadRect (harg4.unread x3)) (View.readAt (Elt F) arg5.view (Rect.unit (s := S512x256) ![0, 0] S512x256.size inb_S512x256_S512x256_0_0).toLoadRect (harg5.unread x4)) (View.readAt (Elt F) arg6.view (Rect.unit (s := S512x1) ![0, 0] S512x1.size inb_S512x1_S512x1_0_0).toLoadRect (harg6.unread x5)) (View.readAt (Elt F) arg7.view (Rect.unit (s := S512x512) ![0, 0] S512x512.size inb_S512x512_S512x512_0_0).toLoadRect (harg7.unread x6)) (View.readAt (Elt F) arg8.view (Rect.unit (s := S512x1) ![0, 0] S512x1.size inb_S512x1_S512x1_0_0).toLoadRect (harg8.unread x7)) (View.readAt (Elt F) arg9.view (Rect.unit (s := S3x512) ![0, 0] S3x512.size inb_S3x512_S3x512_0_0).toLoadRect (harg9.unread x8)) (View.readAt (Elt F) arg10.view (Rect.unit (s := S3x1) ![0, 0] S3x1.size inb_S3x1_S3x1_0_0).toLoadRect (harg10.unread x9)) (arg12.view.readCov [⟨rScr, k0_pay2 (View.readAt (Elt F) arg3.view (Rect.unit (s := S512x256) ![0, 0] S512x256.size inb_S512x256_S512x256_0_0).toLoadRect (harg3.unread x2)) (View.readAt (Elt F) arg1.view (Rect.unit (s := S256x256) ![0, 0] S256x256.size inb_S256x256_S256x256_0_0).toLoadRect (harg1.unread x0))⟩] rScr.toLoadRect) from rfl).trans ?_
    rw [load_whole arg1 harg1 x0 _ zero2, load_whole arg2 harg2 x1 _ zero3, load_whole arg3 harg3 x2 _ zero2, load_whole arg4 harg4 x3 _ zero2, load_whole arg5 harg5 x4 _ zero2, load_whole arg6 harg6 x5 _ zero2, load_whole arg7 harg7 x6 _ zero2, load_whole arg8 harg8 x7 _ zero2, load_whole arg9 harg9 x8 _ zero2, load_whole arg10 harg10 x9 _ zero2]
    exact congrArg (out i x0 x1 x3 x4 x5 x6 x7 x8 x9) (View.readCov_unit_lit _ _ _ zero2)
  iexists _; isplitr
  swap; · iexact HS0
  ipureintro
  refine (View.read_writes_eq_canon _ _ _ (scrCover _)).trans ?_
  refine (View.canon_cons_unit_lit _ _ [] (by decide)).trans ?_
  refine (show _ = k0_pay2 (View.readAt (Elt F) arg3.view (Rect.unit (s := S512x256) ![0, 0] S512x256.size inb_S512x256_S512x256_0_0).toLoadRect (harg3.unread x2)) (View.readAt (Elt F) arg1.view (Rect.unit (s := S256x256) ![0, 0] S256x256.size inb_S256x256_S256x256_0_0).toLoadRect (harg1.unread x0)) from rfl).trans ?_
  rw [load_whole arg3 harg3 x2 _ zero2, load_whole arg1 harg1 x0 _ zero2]

set_option maxHeartbeats 1000000 in
/-- The body at a later point: the scratch is read as it was, the output block is `out` over it. -/
theorem run_later (c : Dev nD) (i : grid0.Coords) (arg1 : Memref sig .tc .vmem S256x256 .bf16) (harg1 : arg1.IsWhole) (arg2 : Memref sig .tc .vmem S1x256x64 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S3x512 .bf16) (harg9 : arg9.IsWhole) (arg10 : Memref sig .tc .vmem S3x1 .f32) (harg10 : arg10.IsWhole) (arg11 : Memref sig .tc .vmem S3x16384 .bf16) (harg11 : arg11.IsWhole) (arg12 : Memref sig .tc .vmem S512x256 .bf16) (harg12 : arg12.IsWhole)
    (hc : ¬first i) (x0 : Vec F S256x256 .bf16) (x1 : Vec F S1x256x64 .bf16) (x2 : Vec F S512x256 .bf16) (x3 : Vec F S512x256 .bf16) (x4 : Vec F S512x256 .bf16) (x5 : Vec F S512x1 .f32) (x6 : Vec F S512x512 .bf16) (x7 : Vec F S512x1 .f32) (x8 : Vec F S3x512 .bf16) (x9 : Vec F S3x1 .f32) (xa : Vec F S512x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xa
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out i x0 x1 x3 x4 x5 x6 x7 x8 x9 xa) ∗ owns (c : Thread nD τ) arg12 fullShare xa) -∗ K ⟨⟩))
      ⊢ wp frame (wpE (defs₀ (F := F)) Variants.none c none) E (cc0__probs_kernel i arg1 harg1 arg2 harg2 arg3 harg3 arg4 harg4 arg5 harg5 arg6 harg6 arg7 harg7 arg8 harg8 arg9 harg9 arg10 harg10 arg11 harg11 arg12 harg12) K := by
  simp only [cc0__probs_kernel_eq_skeleton]; unfold cc0__probs_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (View.read_writes_eq_canon _ _ _ (outCover _)).trans ?_
    refine (View.canon_cons_unit_lit _ _ [] (by decide)).trans ?_
    refine (show _ = out i (View.readAt (Elt F) arg1.view (Rect.unit (s := S256x256) ![0, 0] S256x256.size inb_S256x256_S256x256_0_0).toLoadRect (harg1.unread x0)) (View.readAt (Elt F) arg2.view (Rect.unit (s := S1x256x64) ![0, 0, 0] S1x256x64.size inb_S1x256x64_S1x256x64_0_0_0).toLoadRect (harg2.unread x1)) (View.readAt (Elt F) arg4.view (Rect.unit (s := S512x256) ![0, 0] S512x256.size inb_S512x256_S512x256_0_0).toLoadRect (harg4.unread x3)) (View.readAt (Elt F) arg5.view (Rect.unit (s := S512x256) ![0, 0] S512x256.size inb_S512x256_S512x256_0_0).toLoadRect (harg5.unread x4)) (View.readAt (Elt F) arg6.view (Rect.unit (s := S512x1) ![0, 0] S512x1.size inb_S512x1_S512x1_0_0).toLoadRect (harg6.unread x5)) (View.readAt (Elt F) arg7.view (Rect.unit (s := S512x512) ![0, 0] S512x512.size inb_S512x512_S512x512_0_0).toLoadRect (harg7.unread x6)) (View.readAt (Elt F) arg8.view (Rect.unit (s := S512x1) ![0, 0] S512x1.size inb_S512x1_S512x1_0_0).toLoadRect (harg8.unread x7)) (View.readAt (Elt F) arg9.view (Rect.unit (s := S3x512) ![0, 0] S3x512.size inb_S3x512_S3x512_0_0).toLoadRect (harg9.unread x8)) (View.readAt (Elt F) arg10.view (Rect.unit (s := S3x1) ![0, 0] S3x1.size inb_S3x1_S3x1_0_0).toLoadRect (harg10.unread x9)) (View.readAt (Elt F) arg12.view (Rect.unit (s := S512x256) ![0, 0] S512x256.size inb_S512x256_S512x256_0_0).toLoadRect (harg12.unread xa)) from rfl).trans ?_
    rw [load_whole arg1 harg1 x0 _ zero2, load_whole arg2 harg2 x1 _ zero3, load_whole arg4 harg4 x3 _ zero2, load_whole arg5 harg5 x4 _ zero2, load_whole arg6 harg6 x5 _ zero2, load_whole arg7 harg7 x6 _ zero2, load_whole arg8 harg8 x7 _ zero2, load_whole arg9 harg9 x8 _ zero2, load_whole arg10 harg10 x9 _ zero2, load_whole arg12 harg12 xa _ zero2]
  iexists _; isplitr; · ipureintro; exact harg12.read_unread _
  iexact HS0

end Cert.KernelIdeal.Probs

end
-- ==== Proof.ProbsRegion.lean ====
/- The probability call as a region of the program: its data from any entry contents, its body obligation, and the region. -/
module

public import proofs.«01_k».proof.Proof.ProbsRun
public import Idealize.ShloMosaic.Lib.Pipeline.RegionsLoop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Probs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The data of the region entered at `V` -/

/-- Window `w`'s block at point `t`, read off its array at `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried scratch. -/
abbrev scr : Memref sig .tc .vmem S512x256 .bf16 := Memref.whole cc0_scratch0

/-- What the first point leaves in the scratch, and every later point finds there. -/
def carried (c : Dev nD) : Vec F S512x256 .bf16 := k0_pay2 (iblk V c 2 t0_0) (iblk V c 0 t0_0)

/-- The scoped buffers beside the carried scratch. -/
def restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f))

/-- The invariant before point `n`: the scoped buffers at anything before the first; afterwards the scratch at what the
    first point left. -/
def inv (c : Dev nD) : ℕ → sProp 𝕄
  | 0 => Pipeline.scopedRest (Ix := Unit) (Name := ℕ) (U := UR sig nD τ) (Lvl := ℕ) (Val := Elt F) spec0 c
  | _ + 1 => iprop(owns (c : Thread nD τ) scr fullShare (carried V c) ∗ restOf c)

/-- The scoped buffers are the scratch at anything and the rest. -/
theorem scoped_eq (c : Dev nD) : (Pipeline.scopedRest (Ix := Unit) (Name := ℕ) (U := UR sig nD τ) (Lvl := ℕ) (Val := Elt F) spec0 c : sProp 𝕄)
    = iprop((∃ d, owns (c : Thread nD τ) scr fullShare d) ∗ restOf c) := by
  rw [scopedRest0_eq]; simp only [scr, owns_whole]; rfl

/-- The first branch is taken at the first point alone. -/
theorem first_iff (t : Fin cfg0.N) : first (grid0.coords t) ↔ t.val = 0 := by
  revert t; decide +kernel

/-- The region's data: the arrays as found; each input's buffer at its block, the output's at the body's value; the
    invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out (grid0.coords t) (iblk V c 0 t) (iblk V c 1 t) (iblk V c 3 t) (iblk V c 4 t) (iblk V c 5 t) (iblk V c 6 t) (iblk V c 7 t) (iblk V c 8 t) (iblk V c 9 t) (carried V c)
  Φ t := inv V c t.val
  q _ := fullShare
  owed _ := 0

/-- The arrays are as the region finds them. -/
theorem A_eq (c : Dev nD) (w : Fin cfg0.W) : (dat V c).A w = V c (Pipeline.arrRef spec0 w) := by
  dsimp only [dat]

/-- The output's buffer after the body. -/
theorem after_out (c : Dev nD) (t : Fin cfg0.N) : (dat V c).after 10 t = out (grid0.coords t) (iblk V c 0 t) (iblk V c 1 t) (iblk V c 3 t) (iblk V c 4 t) (iblk V c 5 t) (iblk V c 6 t) (iblk V c 7 t) (iblk V c 8 t) (iblk V c 9 t) (carried V c) := by
  dsimp only [dat]

set_option maxHeartbeats 1000000 in
/-- Every input's buffer holds its block when the body runs, and is left so. -/
theorem before_in (c : Dev nD) (t : Fin cfg0.N) :
    ((∀ d, (dat V c).before 0 t d = iblk V c 0 t) ∧ (dat V c).after 0 t = iblk V c 0 t) ∧ ((∀ d, (dat V c).before 1 t d = iblk V c 1 t) ∧ (dat V c).after 1 t = iblk V c 1 t) ∧ ((∀ d, (dat V c).before 2 t d = iblk V c 2 t) ∧ (dat V c).after 2 t = iblk V c 2 t) ∧ ((∀ d, (dat V c).before 3 t d = iblk V c 3 t) ∧ (dat V c).after 3 t = iblk V c 3 t) ∧ ((∀ d, (dat V c).before 4 t d = iblk V c 4 t) ∧ (dat V c).after 4 t = iblk V c 4 t) ∧ ((∀ d, (dat V c).before 5 t d = iblk V c 5 t) ∧ (dat V c).after 5 t = iblk V c 5 t) ∧ ((∀ d, (dat V c).before 6 t d = iblk V c 6 t) ∧ (dat V c).after 6 t = iblk V c 6 t) ∧ ((∀ d, (dat V c).before 7 t d = iblk V c 7 t) ∧ (dat V c).after 7 t = iblk V c 7 t) ∧ ((∀ d, (dat V c).before 8 t d = iblk V c 8 t) ∧ (dat V c).after 8 t = iblk V c 8 t) ∧ ((∀ d, (dat V c).before 9 t d = iblk V c 9 t) ∧ (dat V c).after 9 t = iblk V c 9 t) := by
  refine ⟨⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩⟩
  all_goals first
    | (dsimp only [dat]; done)
    | exact ((dat V c).before_in_eq_fetched _ rfl (fun _ => rfl) (fun _ _ _ => rfl) (fun t => by dsimp only [dat]; rfl) t d).trans
        (by unfold Dat.fetched Dat.blockOf iblk; rw [A_eq]; try rfl)

/-! ## The body obligation -/

/-- What the body is called with at point `t`, the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

set_option maxHeartbeats 4000000 in
/-- The body at point `t`. -/
theorem sound_body (c : Dev nD) (t : Fin cfg0.N) :
    bodyPre V c t ⊢ wp frame (wpE (defs₀ (F := F)) Variants.none c none) Set.univ (bodyAt0 t) (fun _ => bodyPost V c t) := by
  obtain ⟨⟨b0, a0⟩, ⟨b1, a1⟩, ⟨b2, a2⟩, ⟨b3, a3⟩, ⟨b4, a4⟩, ⟨b5, a5⟩, ⟨b6, a6⟩, ⟨b7, a7⟩, ⟨b8, a8⟩, ⟨b9, a9⟩⟩ := before_in V c t
  unfold bodyPre bodyPost bodyAt0
  simp only [b0, b1, b2, b3, b4, b5, b6, b7, b8, b9]
  rw [show (dat V c).owesAt () t.succ = (dat V c).owesAt () t.castSucc from rfl,
    a0, a1, a2, a3, a4, a5, a6, a7, a8, a9, after_out]
  rw [show (dat V c).Φ t.succ = iprop(owns (c : Thread nD τ) scr fullShare (carried V c) ∗ restOf c) from rfl,
    show (dat V c).Φ t.castSucc = inv V c t.val from rfl]
  by_cases h0 : t.val = 0
  · obtain rfl : t = t0_0 := Fin.ext h0
    rw [show inv V c t0_0.val = iprop((∃ d, owns (c : Thread nD τ) scr fullShare d) ∗ restOf c) from scoped_eq c]
    unfold carried
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t0_0) _ _ _ _ _ _ _ _ _ _ _ _ _ _ _ _ _ _ _ _ _ _ _ _ ((first_iff t0_0).mpr rfl) (iblk V c 0 t0_0) (iblk V c 1 t0_0) (iblk V c 2 t0_0) (iblk V c 3 t0_0) (iblk V c 4 t0_0) (iblk V c 5 t0_0) (iblk V c 6 t0_0) (iblk V c 7 t0_0) (iblk V c 8 t0_0) (iblk V c 9 t0_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS HR]; · isplitl [HS] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show inv V c t.val = iprop(owns (c : Thread nD τ) scr fullShare (carried V c) ∗ restOf c) from by
      obtain ⟨n, hn⟩ := Nat.exists_eq_succ_of_ne_zero h0; rw [hn]; rfl]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_later c (grid0.coords t) _ _ _ _ _ _ _ _ _ _ _ _ _ _ _ _ _ _ _ _ _ _ _ _ (fun h => h0 ((first_iff t).mp h)) (iblk V c 0 t) (iblk V c 1 t) (iblk V c 2 t) (iblk V c 3 t) (iblk V c 4 t) (iblk V c 5 t) (iblk V c 6 t) (iblk V c 7 t) (iblk V c 8 t) (iblk V c 9 t) (carried V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS HR]; · isplitl [HS] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body's row of the function table. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-! ## The region -/

variable (adm : (p : Fin 2) → (pcfgs (F := F) p).Adm)
variable (pd : (p : Fin 2) → (c : Dev nD) → Dat τ (Elt F) Unit ℕ (UR sig nD τ) ℕ (Pipeline.pin (pcfgs (F := F)) adm p) c)
variable (Vp : (c : Dev nD) → (b : Ref sig .tc) → Buf (Elt F) ((c : Thread nD τ).loc b))

/-- Every window but the output's is an input. -/
theorem isOut_of : ∀ w : Fin cfg0.W, ¬w = 10 → (cfg0.win w).isOut = false := by decide
/-- Only the output's window is on the output array. -/
theorem arr_of : ∀ w : Fin cfg0.W, ¬w = 10 → Pipeline.arrRef spec0 w ≠ main_v20 := by decide

/-- No level is assigned. -/
abbrev L : GSem nD τ sig → Finset Unit := fun _ => ∅
/-- The same. -/
abbrev lv : GSem nD τ sig → Unit → ℕ := fun _ _ => 0

set_option backward.isDefEq.respectTransparency.types false in
/-- The region over "every unscoped buffer at `V c`, and nothing owed", left at `Vp c`, which differs from `V c` in the
    output array alone. -/
def reg (hpd : ∀ c, pd 0 c = dat V c) (hVp_out : ∀ c, Vp c main_v20 = (dat V c).arrAt 10 cfg0.N)
    (hVp_ne : ∀ c (b : Ref sig .tc), b ≠ main_v20 → Vp c b = V c b) :
    Pipeline.RegionSeg (pcfgs (F := F)) adm pd () defs₀ Variants.none L lv 0 where
  win := launch0.win.to₀
  block_pos := launch0.block_pos
  stage_whole := launch0.stage_whole
  K := PEmpty
  osem k := k.elim
  ho := Pipeline.OwnSemFacts.none _
  hbody c := by rw [hpd c]; exact (body_obligation V c).loose
  hwaits := Pipeline.hwaits_of_owed_zero _ _ _ _ L lv 0 fun c t => by rw [hpd c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm pd launch0.win launch0.arr_whole c
      ((pd 0 c).share_full fun _ => by rw [hpd c]; rfl) (V c) fun w => by rw [hpd c]; exact A_eq V c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hpd c]; unfold Pipeline.Dat.owesAt Pipeline.owesWithin
      icases HO with ⟨%W, HO⟩; iexists W; isplitr; · ipureintro; exact fun _ _ => Or.inl trivial
      iexact HO
    isplitr; · iempintro
    iexact Hrest
  hin c := by
    rw [hpd c]
    rw [show (dat V c).Φ 0 = Pipeline.scopedRest (Ix := Unit) (Name := ℕ) (U := UR sig nD τ) (Lvl := ℕ) (Val := Elt F) spec0 c from rfl]
    iintro ⟨-, -, Hr⟩; iexact Hr
  hout c := by
    rw [hpd c, Pipeline.ownSems0_none]
    show (dat V c).Φ (Fin.last cfg0.N) ⊢ _
    rw [show (dat V c).Φ (Fin.last cfg0.N) = iprop(owns (c : Thread nD τ) scr fullShare (carried V c) ∗ restOf c) from rfl]
    show _ ⊢ iprop(BI.emp ∗ BI.emp ∗ Pipeline.scopedRest (Ix := Unit) (Name := ℕ) (U := UR sig nD τ) (Lvl := ℕ) (Val := Elt F) spec0 c)
    rw [scoped_eq]
    iintro ⟨HS, HR⟩
    isplitr; · iempintro
    isplitr; · iempintro
    isplitl [HS]; · iexists _; iexact HS
    iexact HR
  hexit c := by
    have hjoin := Pipeline.unscopedBufs_of_arrays (p := 0) (pcfgs (F := F)) adm (Ix := Unit) (Name := ℕ) (U := UR sig nD τ) (Lvl := ℕ) launch0.win launch0.arr_whole c
      pd ((pd 0 c).share_full fun _ => by rw [hpd c]; rfl) (V c) (Vp c) ((pd 0 c).arrAt · cfg0.N)
      (fun w => by
        rw [hpd c]
        by_cases hw : w = 10
        · subst hw; exact (hVp_out c).symm
        · exact ((dat V c).arrAt_in w (isOut_of w hw) _).trans ((A_eq V c w).trans (hVp_ne c _ (arr_of w hw)).symm))
      (fun b hb => hVp_ne c b fun h => hb (h ▸ Finset.mem_image.mpr ⟨10, Finset.mem_univ _, rfl⟩))
    iintro ⟨Ha, HO, -, Hrest⟩
    imodintro
    isplitl [Ha Hrest]
    · iapply hjoin; isplitl [Ha] <;> iassumption
    rw [hpd c]; unfold Pipeline.Dat.owesAt Pipeline.owesWithin
    icases HO with ⟨%W, -, HO⟩; iexists W; iexact HO

end Cert.KernelIdeal.Probs

end
-- ==== Proof.Gcn.lean ====
/- The graph-convolution kernel's body as a function of vectors, and the run of the printed body to it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body as a function of vectors -/

/-- The slab of relation `r` of the stacked adjacencies. -/
theorem adjInb (r : Fin 3) : ∀ a, (![r.val, 0, 0] : Fin 3 → Nat) a + S1x256x256.size a ≤ S3x256x256.size a := by revert r; decide
/-- The slab of layer `l`, relation `r` of the stacked weights. -/
theorem wInb (l : Fin 2) (r : Fin 3) : ∀ a, (![l.val, r.val, 0, 0] : Fin 4 → Nat) a + S1x1x256x128.size a ≤ S2x3x256x128.size a := by
  revert l r; decide
/-- The slab of layer `l`, relation `r` of the stacked biases. -/
theorem bInb (l : Fin 2) (r : Fin 3) : ∀ a, (![l.val, r.val, 0] : Fin 3 → Nat) a + S1x1x128.size a ≤ S2x3x128.size a := by
  revert l r; decide
/-- The slab of layer `l` of the stacked linear weights. -/
theorem lwInb (l : Fin 2) : ∀ a, (![l.val, 0, 0] : Fin 3 → Nat) a + S1x256x256.size a ≤ S2x256x256.size a := by revert l; decide
/-- The row of layer `l` of the stacked linear biases. -/
theorem lbInb (l : Fin 2) : ∀ a, (![l.val, 0] : Fin 2 → Nat) a + S1x256.size a ≤ S2x256.size a := by revert l; decide

/-- The whole of a square buffer. -/
abbrev rAll : Rect S256x256 := Rect.unit (s := S256x256) ![0, 0] S256x256.size inb_S256x256_S256x256_0_0
/-- Relation `r`'s slab. -/
abbrev rAdj (r : Fin 3) : Rect S3x256x256 := Rect.unit (s := S3x256x256) ![r.val, 0, 0] S1x256x256.size (adjInb r)
/-- Layer `l`'s, relation `r`'s weight slab. -/
abbrev rW (l : Fin 2) (r : Fin 3) : Rect S2x3x256x128 := Rect.unit (s := S2x3x256x128) ![l.val, r.val, 0, 0] S1x1x256x128.size (wInb l r)
/-- Layer `l`'s, relation `r`'s bias slab. -/
abbrev rB (l : Fin 2) (r : Fin 3) : Rect S2x3x128 := Rect.unit (s := S2x3x128) ![l.val, r.val, 0] S1x1x128.size (bInb l r)
/-- Layer `l`'s linear weight slab. -/
abbrev rLW (l : Fin 2) : Rect S2x256x256 := Rect.unit (s := S2x256x256) ![l.val, 0, 0] S1x256x256.size (lwInb l)
/-- Layer `l`'s linear bias row. -/
abbrev rLB (l : Fin 2) : Rect S2x256 := Rect.unit (s := S2x256) ![l.val, 0] S1x256.size (lbInb l)

/-- The product of a square matrix with a tall one, from zero. -/
def mul128 (a : FVec F S256x256 .f32) (b : FVec F S256x128 .f32) : FVec F S256x128 .f32 :=
  matmul dot_S256x256_S256x128_S256x128_1_0_0_1_n_n none a b (constant S256x128 .f32 0x00000000#32)

/-- One graph convolution: `adj (v w) + b`. -/
def conv (v adj : FVec F S256x256 .f32) (w : Vec F S1x1x256x128 .f32) (b : Vec F S1x1x128 .f32) : FVec F S256x128 .f32 :=
  addf (mul128 adj (mul128 v (shapeCast S256x128 w shapeCasts_S1x1x256x128_S256x128)))
    (broadcastTo S256x128 (shapeCast S1x128 (shapeCast S128 b shapeCasts_S1x1x128_S128) shapeCasts_S128_S1x128) broadcasts_S1x128_S256x128)

/-- One relation's two convolutions side by side, the backward one first. -/
def rel (l : Fin 2) (r : Fin 3) (x0 : Vec F S3x256x256 .bf16) (x2 : Vec F S2x3x256x128 .f32) (x3 : Vec F S2x3x128 .f32)
    (x4 : Vec F S2x3x256x128 .f32) (x5 : Vec F S2x3x128 .f32) (v : FVec F S256x256 .f32) : FVec F S256x256 .f32 :=
  concatenate S256x256 1 [⟨S256x128, conv v (k1_pay4 (View.ld x0 (rAdj r))) (View.ld x4 (rW l r)) (View.ld x5 (rB l r))⟩,
    ⟨S256x128, conv v (k1_pay1 (View.ld x0 (rAdj r))) (View.ld x2 (rW l r)) (View.ld x3 (rB l r))⟩] concatenates_S256x128_S256x128_S256x256_d1

/-- One layer. -/
def layer (l : Fin 2) (x0 : Vec F S3x256x256 .bf16) (x2 : Vec F S2x3x256x128 .f32) (x3 : Vec F S2x3x128 .f32)
    (x4 : Vec F S2x3x256x128 .f32) (x5 : Vec F S2x3x128 .f32) (x6 : Vec F S2x256x256 .f32) (x7 : Vec F S2x256 .f32)
    (v : FVec F S256x256 .f32) : FVec F S256x256 .f32 :=
  addf (addf (matmul dot_S256x256_S256x256_S256x256_1_0_0_1_n_n none
      (maximumf (addf (addf (addf k1_pay7 (rel l 0 x0 x2 x3 x4 x5 v)) (rel l 1 x0 x2 x3 x4 x5 v)) (rel l 2 x0 x2 x3 x4 x5 v))
        (broadcast S256x256 (Scalar.ofBits .f32 0x00000000#32)))
      (shapeCast S256x256 (View.ld x6 (rLW l)) shapeCasts_S1x256x256_S256x256) (constant S256x256 .f32 0x00000000#32))
    (broadcastTo S256x256 (shapeCast S1x256 (shapeCast S256 (View.ld x7 (rLB l)) shapeCasts_S1x256_S256) shapeCasts_S256_S1x256)
      broadcasts_S1x256_S256x256)) v

/-- What the body stores: the two layers. -/
def out (x0 : Vec F S3x256x256 .bf16) (x1 : Vec F S256x256 .f32) (x2 : Vec F S2x3x256x128 .f32) (x3 : Vec F S2x3x128 .f32) (x4 : Vec F S2x3x256x128 .f32) (x5 : Vec F S2x3x128 .f32) (x6 : Vec F S2x256x256 .f32) (x7 : Vec F S2x256 .f32) : Vec F S256x256 .f32 :=
  layer 1 x0 x2 x3 x4 x5 x6 x7 (layer 0 x0 x2 x3 x4 x5 x6 x7 x1)

/-- The one store covers its output block. -/
theorem outCover (p : Vec F S256x256 .f32) (y : S256x256.Idx) :
    ∃ pc ∈ ([⟨rAll, p⟩] : List (View.Piece (Elt F) S256x256 .f32)), y ∈ pc.1.set :=
  View.cover_of_tiledL [⟨rAll, p⟩] S256x256.size (by sl_kernel_rfl) y

/-- The offsets of a load at the origin are zero. -/
theorem zero2 : ∀ a, (![0, 0] : Fin 2 → Nat) a = 0 := by decide

/-! ## The run -/

set_option maxHeartbeats 1000000 in
/-- The body on whole buffers leaves its inputs as they were and its output at `out` of them. -/
theorem run (c : Dev nD) (E : Set ℕ) (arg0 : Memref sig .tc .vmem S3x256x256 .bf16) (harg0 : arg0.IsWhole) (arg1 : Memref sig .tc .vmem S256x256 .f32) (harg1 : arg1.IsWhole) (arg2 : Memref sig .tc .vmem S2x3x256x128 .f32) (harg2 : arg2.IsWhole) (arg3 : Memref sig .tc .vmem S2x3x128 .f32) (harg3 : arg3.IsWhole) (arg4 : Memref sig .tc .vmem S2x3x256x128 .f32) (harg4 : arg4.IsWhole) (arg5 : Memref sig .tc .vmem S2x3x128 .f32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S256x256 .f32) (harg8 : arg8.IsWhole) (x0 : Vec F S3x256x256 .bf16) (x1 : Vec F S256x256 .f32) (x2 : Vec F S2x3x256x128 .f32) (x3 : Vec F S2x3x128 .f32) (x4 : Vec F S2x3x256x128 .f32) (x5 : Vec F S2x3x128 .f32) (x6 : Vec F S2x256x256 .f32) (x7 : Vec F S2x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out x0 x1 x2 x3 x4 x5 x6 x7)) -∗ K ⟨⟩))
      ⊢ wp frame (wpE (defs₀ (F := F)) Variants.none c none) E (cc1__bigcn_kernel arg0 harg0 arg1 harg1 arg2 harg2 arg3 harg3 arg4 harg4 arg5 harg5 arg6 harg6 arg7 harg7 arg8 harg8) K := by
  simp only [cc1__bigcn_kernel_eq_skeleton]; unfold cc1__bigcn_kernel_skel
  simp only [k1_part5_eq_skeleton, k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (outCover _)).trans ?_
  refine (View.canon_cons_unit_lit _ _ [] zero2).trans ?_
  have hx : View.ld (arg1.view.read (Elt F) f1) rAll = arg1.view.read (Elt F) f1 := View.ld_unit_lit _ _ zero2
  refine Eq.trans ?_ (congrArg (fun x1 => out (arg0.view.read (Elt F) f0) x1 (arg2.view.read (Elt F) f2) (arg3.view.read (Elt F) f3)
    (arg4.view.read (Elt F) f4) (arg5.view.read (Elt F) f5) (arg6.view.read (Elt F) f6) (arg7.view.read (Elt F) f7)) hx)
  rfl

end Cert.KernelIdeal.Gcn

end
-- ==== Proof.GcnRegion.lean ====
/- The graph-convolution call as a region of the program: its data from any entry contents, its body obligation, and the region. -/
module

public import proofs.«01_k».proof.Proof.Gcn
public import Idealize.ShloMosaic.Lib.Pipeline.RegionsLoop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The data of the region entered at `V` -/

/-- Window `w`'s block at point `t`, read off its array at `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's data: the arrays as found; each input's buffer at its block, the output's at the body's value; the
    invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (iblk V c 0 t) (iblk V c 1 t) (iblk V c 2 t) (iblk V c 3 t) (iblk V c 4 t) (iblk V c 5 t) (iblk V c 6 t) (iblk V c 7 t)
  Φ t := Pipeline.scopedRest (Ix := Unit) (Name := ℕ) (U := UR sig nD τ) (Lvl := ℕ) (Val := Elt F) spec1 c
  q _ := fullShare
  owed _ := 0

/-- The arrays are as the region finds them. -/
theorem A_eq (c : Dev nD) (w : Fin cfg1.W) : (dat V c).A w = V c (Pipeline.arrRef spec1 w) := by
  dsimp only [dat]

/-- The output's buffer after the body. -/
theorem after_out (c : Dev nD) (t : Fin cfg1.N) : (dat V c).after 8 t = out (iblk V c 0 t) (iblk V c 1 t) (iblk V c 2 t) (iblk V c 3 t) (iblk V c 4 t) (iblk V c 5 t) (iblk V c 6 t) (iblk V c 7 t) := by
  dsimp only [dat]

set_option maxHeartbeats 1000000 in
/-- Every input's buffer holds its block when the body runs, and is left so. -/
theorem before_in (c : Dev nD) (t : Fin cfg1.N) :
    ((∀ d, (dat V c).before 0 t d = iblk V c 0 t) ∧ (dat V c).after 0 t = iblk V c 0 t) ∧ ((∀ d, (dat V c).before 1 t d = iblk V c 1 t) ∧ (dat V c).after 1 t = iblk V c 1 t) ∧ ((∀ d, (dat V c).before 2 t d = iblk V c 2 t) ∧ (dat V c).after 2 t = iblk V c 2 t) ∧ ((∀ d, (dat V c).before 3 t d = iblk V c 3 t) ∧ (dat V c).after 3 t = iblk V c 3 t) ∧ ((∀ d, (dat V c).before 4 t d = iblk V c 4 t) ∧ (dat V c).after 4 t = iblk V c 4 t) ∧ ((∀ d, (dat V c).before 5 t d = iblk V c 5 t) ∧ (dat V c).after 5 t = iblk V c 5 t) ∧ ((∀ d, (dat V c).before 6 t d = iblk V c 6 t) ∧ (dat V c).after 6 t = iblk V c 6 t) ∧ ((∀ d, (dat V c).before 7 t d = iblk V c 7 t) ∧ (dat V c).after 7 t = iblk V c 7 t) := by
  refine ⟨⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩, ⟨fun d => ?_, ?_⟩⟩
  all_goals first
    | (dsimp only [dat]; done)
    | exact ((dat V c).before_in_eq_fetched _ rfl (fun _ => rfl) (fun _ _ _ => rfl) (fun t => by dsimp only [dat]; rfl) t d).trans
        (by unfold Dat.fetched Dat.blockOf iblk; rw [A_eq]; try rfl)

/-! ## The body obligation -/

/-- What the body is called with at point `t`, the windows one by one. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 4000000 in
/-- The body at point `t`. -/
theorem sound_body (c : Dev nD) (t : Fin cfg1.N) :
    bodyPre V c t ⊢ wp frame (wpE (defs₀ (F := F)) Variants.none c none) Set.univ (bodyAt1 t) (fun _ => bodyPost V c t) := by
  obtain ⟨⟨b0, a0⟩, ⟨b1, a1⟩, ⟨b2, a2⟩, ⟨b3, a3⟩, ⟨b4, a4⟩, ⟨b5, a5⟩, ⟨b6, a6⟩, ⟨b7, a7⟩⟩ := before_in V c t
  unfold bodyPre bodyPost bodyAt1
  simp only [b0, b1, b2, b3, b4, b5, b6, b7]
  rw [show (dat V c).owesAt () t.succ = (dat V c).owesAt () t.castSucc from rfl,
    show (dat V c).Φ t.succ = (dat V c).Φ t.castSucc from rfl,
    a0, a1, a2, a3, a4, a5, a6, a7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c Set.univ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the function table. -/
theorem defs₀_row (t : Fin cfg1.N) : defs₀ (F := F) .tc cfg1.body (cfg1.bodyArgs t (cfg1.slots t)) = bodyAt1 t := by
  unfold defs₀; rw [Defs.onTc_tc]

/-- The library's body obligation. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-! ## The region -/

variable (adm : (p : Fin 2) → (pcfgs (F := F) p).Adm)
variable (pd : (p : Fin 2) → (c : Dev nD) → Dat τ (Elt F) Unit ℕ (UR sig nD τ) ℕ (Pipeline.pin (pcfgs (F := F)) adm p) c)
variable (Vp : (c : Dev nD) → (b : Ref sig .tc) → Buf (Elt F) ((c : Thread nD τ).loc b))

/-- Every window but the output's is an input. -/
theorem isOut_of : ∀ w : Fin cfg1.W, ¬w = 8 → (cfg1.win w).isOut = false := by decide
/-- Only the output's window is on the output array. -/
theorem arr_of : ∀ w : Fin cfg1.W, ¬w = 8 → Pipeline.arrRef spec1 w ≠ main_v22 := by decide

/-- No level is assigned. -/
abbrev L : GSem nD τ sig → Finset Unit := fun _ => ∅
/-- The same. -/
abbrev lv : GSem nD τ sig → Unit → ℕ := fun _ _ => 0

set_option backward.isDefEq.respectTransparency.types false in
/-- The region over "every unscoped buffer at `V c`, and nothing owed", left at `Vp c`, which differs from `V c` in the
    output array alone. -/
def reg (hpd : ∀ c, pd 1 c = dat V c) (hVp_out : ∀ c, Vp c main_v22 = (dat V c).arrAt 8 cfg1.N)
    (hVp_ne : ∀ c (b : Ref sig .tc), b ≠ main_v22 → Vp c b = V c b) :
    Pipeline.RegionSeg (pcfgs (F := F)) adm pd () defs₀ Variants.none L lv 1 where
  win := launch1.win.to₀
  block_pos := launch1.block_pos
  stage_whole := launch1.stage_whole
  K := PEmpty
  osem k := k.elim
  ho := Pipeline.OwnSemFacts.none _
  hbody c := by rw [hpd c]; exact (body_obligation V c).loose
  hwaits := Pipeline.hwaits_of_owed_zero _ _ _ _ L lv 1 fun c t => by rw [hpd c]; rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (V c)
  hentry c := by
    rw [Pipeline.ownSems0_none]
    have hsplit := Pipeline.arrays_of_unscopedBufs (p := 1) (pcfgs (F := F)) adm pd launch1.win launch1.arr_whole c
      ((pd 1 c).share_full fun _ => by rw [hpd c]; rfl) (V c) fun w => by rw [hpd c]; exact A_eq V c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hpd c]; unfold Pipeline.Dat.owesAt Pipeline.owesWithin
      icases HO with ⟨%W, HO⟩; iexists W; isplitr; · ipureintro; exact fun _ _ => Or.inl trivial
      iexact HO
    isplitr; · iempintro
    iexact Hrest
  hin c := by
    rw [hpd c]
    rw [show (dat V c).Φ 0 = Pipeline.scopedRest (Ix := Unit) (Name := ℕ) (U := UR sig nD τ) (Lvl := ℕ) (Val := Elt F) spec1 c from rfl]
    iintro ⟨-, -, Hr⟩; iexact Hr
  hout c := by
    rw [hpd c, Pipeline.ownSems0_none]
    show (dat V c).Φ (Fin.last cfg1.N) ⊢ _
    rw [show (dat V c).Φ (Fin.last cfg1.N) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      pd ((pd 1 c).share_full fun _ => by rw [hpd c]; rfl) (V c) (Vp c) ((pd 1 c).arrAt · cfg1.N)
      (fun w => by
        rw [hpd c]
        by_cases hw : w = 8
        · subst hw; exact (hVp_out c).symm
        · exact ((dat V c).arrAt_in w (isOut_of w hw) _).trans ((A_eq V c w).trans (hVp_ne c _ (arr_of w hw)).symm))
      (fun b hb => hVp_ne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    rw [hpd c]; unfold Pipeline.Dat.owesAt Pipeline.owesWithin
    icases HO with ⟨%W, -, HO⟩; iexists W; iexact HO

end Cert.KernelIdeal.Gcn

end
-- ==== Proof.Whole.lean ====
/- The whole program's run: the host's layout, the two calls, and what every buffer holds at the end. -/
module

public import proofs.«01_k».proof.Proof.ProbsRegion
public import proofs.«01_k».proof.Proof.GcnRegion
public import proofs.«01_k».proof.Proof.Gen.KernelIdeal.Regions
public import Idealize.ShloMosaic.Lib.Pipeline.RegionsLoop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- A core's unscoped buffers as region 0 finds them. -/
def W1 (c : Dev nD) : Valuation τ sig (Elt F) := V1 m c
/-- The probabilities' array after region 0. -/
def probsArr (c : Dev nD) : Buf (Elt F) ((c : Thread nD τ).loc main_v20) :=
  (Probs.dat (fun c b => W1 m c b) c).arrAt 10 cfg0.N
/-- The buffers after region 0. -/
def W2 (c : Dev nD) : Valuation τ sig (Elt F) := Function.update (W1 m c) main_v20 (probsArr m c)
/-- The buffers as region 1 finds them. -/
def W3 (c : Dev nD) : Valuation τ sig (Elt F) := StableHlo.after hostOps1 (W2 m c)
/-- The result's array after region 1. -/
def resultArr (c : Dev nD) : Buf (Elt F) ((c : Thread nD τ).loc main_v22) :=
  (Gcn.dat (fun c b => W3 m c b) c).arrAt 8 cfg1.N
/-- The buffers at the end. -/
def W4 (c : Dev nD) : Valuation τ sig (Elt F) := Function.update (W3 m c) main_v22 (resultArr m c)

/-- What the regions leave in the arrays they may change. -/
def outs : Outs (F := F) := fun k r c => if k = 2 then W2 m c r else W4 m c r

/-- The contents after region 0, as the program's own list of contents has them. -/
theorem V2_eq (c : Dev nD) : V2 m (outs m) c = W2 m c := by
  have h : outs m 2 main_v20 c = probsArr m c := by
    unfold outs; rw [if_pos rfl]; unfold W2; exact Function.update_self _ _ _
  unfold V2; rw [h]; unfold W2 W1; exact Eq.refl _
/-- The contents before region 1. -/
theorem V3_eq (c : Dev nD) : V3 m (outs m) c = W3 m c := by unfold V3 W3; rw [V2_eq]
/-- The contents at the end. -/
theorem V4_eq (c : Dev nD) : V4 m (outs m) c = W4 m c := by
  have h : outs m 4 main_v22 c = resultArr m c := by
    unfold outs; rw [if_neg (by decide)]; unfold W4; exact Function.update_self _ _ _
  unfold V4; rw [h, V3_eq]; unfold W4; exact Eq.refl _

/-! ## The run -/

/-- Both regions' data. -/
def pdats : (p : Fin 2) → (c : Dev nD) → Dat τ (Elt F) Unit ℕ (UR sig nD τ) ℕ (Pipeline.pin (pcfgs (F := F)) adm p) c
  | ⟨0, _⟩ => fun c => Probs.dat (fun c b => W1 m c b) c
  | ⟨1, _⟩ => fun c => Gcn.dat (fun c b => W3 m c b) c

/-- Region 0 at its entry contents. -/
def R0 : Pipeline.RegionSeg (pcfgs (F := F)) adm (pdats m) () defs₀ Variants.none Probs.L Probs.lv 0 :=
  Probs.reg (fun c b => W1 m c b) adm (pdats m) (fun c b => W2 m c b) (fun _ => rfl)
    (fun c => by unfold W2; exact Function.update_self _ _ _)
    (fun c b h => by unfold W2; exact Function.update_of_ne (StableHlo.devRef_ne_of_ne h) _ _)
/-- Region 1 at its entry contents. -/
def R1 : Pipeline.RegionSeg (pcfgs (F := F)) adm (pdats m) () defs₀ Variants.none Probs.L Probs.lv 1 :=
  Gcn.reg (fun c b => W3 m c b) adm (pdats m) (fun c b => W4 m c b) (fun _ => rfl)
    (fun c => by unfold W4; exact Function.update_self _ _ _)
    (fun c b h => by unfold W4; exact Function.update_of_ne (StableHlo.devRef_ne_of_ne h) _ _)

/-- What rides along beside the buffers: nothing is owed. -/
def E (_ : Fin 3) (c : Dev nD) : sProp 𝕄 := iprop(∃ W, owes (c : Thread nD τ) (0 : CellTallies nD τ sig Unit) W)

/-- Region 0's entry, from the host's contents. -/
theorem pre0 (c : Dev nD) : iprop(StableHlo.held (c : Thread nD τ) (Pipeline.ucRefs τ sig) (V1 m c) ∗ E 0 c) ⊢ (R0 m).pre c := by
  rw [← Pipeline.unscopedBufs_held (Ix := Unit) (Name := ℕ) (U := UR sig nD τ) (Lvl := ℕ) c (V1 m c)]; exact .rfl
/-- Region 0's exit, to the host's contents. -/
theorem post0 (c : Dev nD) : (R0 m).post c ⊢ iprop(StableHlo.held (c : Thread nD τ) (Pipeline.ucRefs τ sig) (V2 m (outs m) c) ∗ E 1 c) := by
  rw [V2_eq, ← Pipeline.unscopedBufs_held (Ix := Unit) (Name := ℕ) (U := UR sig nD τ) (Lvl := ℕ) c (W2 m c)]; exact .rfl
/-- Region 1's entry, from the host's contents. -/
theorem pre1 (c : Dev nD) : iprop(StableHlo.held (c : Thread nD τ) (Pipeline.ucRefs τ sig) (V3 m (outs m) c) ∗ E 1 c) ⊢ (R1 m).pre c := by
  rw [V3_eq, ← Pipeline.unscopedBufs_held (Ix := Unit) (Name := ℕ) (U := UR sig nD τ) (Lvl := ℕ) c (W3 m c)]; exact .rfl
/-- Region 1's exit, to the final contents. -/
theorem post1 (c : Dev nD) : (R1 m).post c ⊢ iprop(StableHlo.held (c : Thread nD τ) (Pipeline.ucRefs τ sig) (W4 m c)
    ∗ ∃ W, owes (c : Thread nD τ) (0 : CellTallies nD τ sig Unit) W) := by
  rw [← Pipeline.unscopedBufs_held (Ix := Unit) (Name := ℕ) (U := UR sig nD τ) (Lvl := ℕ) c (W4 m c)]; exact .rfl

set_option maxHeartbeats 1600000 in
/-- Every unscoped buffer at its final contents, and every semaphore back at zero. -/
theorem run : θ_run defs (onTc (τ := τ) (main (F := F))) ⟨m, fun _ => 0, ρ⟩ (fun r =>
    (∀ c : Dev nD, ∀ b ∈ Pipeline.ucRefs τ sig, r.2.mem (c, b) = W4 m c b) ∧ r.2.sem = fun _ => 0) := by
  refine Pipeline.θ_run_regions_kit_dev_sems (pcfgs (F := F)) adm (pdats m) () cellOf_inj emb₁ defs₀ Variants.none Probs.L Probs.lv m ρ main
    (segs m (outs m) Variants.none Probs.L Probs.lv E () (pdats m) (R0 m) (R1 m))
    (fun c Q => by
      rewrite [main_chain c, Seg.run_eq_chain,
        show (segs m (outs m) Variants.none Probs.L Probs.lv E () (pdats m) (R0 m) (R1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (W4 m c))
    (hch := ?_)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · -- the launch's resources
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the items one after the other
    exact fun c => ⟨.rfl, pre0 m c, post0 m c, pre1 m c, post1 m c⟩
  · -- what the launch gives each core
    have hstep : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ E 0 c) : sProp 𝕄) := fun c => by
      rw [← Pipeline.unscopedBufs_held (Ix := Unit) (Name := ℕ) (U := UR sig nD τ) (Lvl := ℕ) c (V0 m c)]
      iintro ⟨Hb, -, HO, -, -, -⟩
      isplitl [Hb]; · iexact Hb
      unfold E; iexists _; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ E 0 c) : sProp 𝕄) :=
      bigSep_mono fun c _ => hstep c
    iintro ⟨H, -⟩
    ihave H' := hall $$ H
    imodintro
    iexact H'
  · -- the end: every unscoped buffer read off the last contents
    unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI

/-! ## What the run leaves, array by array -/

/-- An unscoped buffer of the program is among the ones the run speaks of. -/
theorem mem_uc (r : Ref sig .tc) (h : ¬(Proc.devRef (τ := τ) .tc r).isScoped) : Proc.devRef .tc r ∈ Pipeline.ucRefs τ sig :=
  Finset.mem_filter.mpr ⟨StableHlo.devRef_mem_tcRefs r, h⟩

/-- Argument 0 ends as it was. -/
theorem W4_arg0 (c : Dev nD) : W4 m c main_arg0 = m ((c : Thread nD τ).loc main_arg0) := by
  rw [← V4_eq]; exact V4_main_arg0 m (outs m) c
/-- Argument 1 ends as it was. -/
theorem W4_arg1 (c : Dev nD) : W4 m c main_arg1 = m ((c : Thread nD τ).loc main_arg1) := by
  rw [← V4_eq]; exact V4_main_arg1 m (outs m) c
/-- Argument 2 ends as it was. -/
theorem W4_arg2 (c : Dev nD) : W4 m c main_arg2 = m ((c : Thread nD τ).loc main_arg2) := by
  rw [← V4_eq]; exact V4_main_arg2 m (outs m) c
/-- Argument 3 ends as it was. -/
theorem W4_arg3 (c : Dev nD) : W4 m c main_arg3 = m ((c : Thread nD τ).loc main_arg3) := by
  rw [← V4_eq]; exact V4_main_arg3 m (outs m) c
/-- Argument 4 ends as it was. -/
theorem W4_arg4 (c : Dev nD) : W4 m c main_arg4 = m ((c : Thread nD τ).loc main_arg4) := by
  rw [← V4_eq]; exact V4_main_arg4 m (outs m) c
/-- Argument 5 ends as it was. -/
theorem W4_arg5 (c : Dev nD) : W4 m c main_arg5 = m ((c : Thread nD τ).loc main_arg5) := by
  rw [← V4_eq]; exact V4_main_arg5 m (outs m) c
/-- Argument 6 ends as it was. -/
theorem W4_arg6 (c : Dev nD) : W4 m c main_arg6 = m ((c : Thread nD τ).loc main_arg6) := by
  rw [← V4_eq]; exact V4_main_arg6 m (outs m) c
/-- Argument 7 ends as it was. -/
theorem W4_arg7 (c : Dev nD) : W4 m c main_arg7 = m ((c : Thread nD τ).loc main_arg7) := by
  rw [← V4_eq]; exact V4_main_arg7 m (outs m) c
/-- Argument 8 ends as it was. -/
theorem W4_arg8 (c : Dev nD) : W4 m c main_arg8 = m ((c : Thread nD τ).loc main_arg8) := by
  rw [← V4_eq]; exact V4_main_arg8 m (outs m) c
/-- Argument 9 ends as it was. -/
theorem W4_arg9 (c : Dev nD) : W4 m c main_arg9 = m ((c : Thread nD τ).loc main_arg9) := by
  rw [← V4_eq]; exact V4_main_arg9 m (outs m) c
/-- Argument 10 ends as it was. -/
theorem W4_arg10 (c : Dev nD) : W4 m c main_arg10 = m ((c : Thread nD τ).loc main_arg10) := by
  rw [← V4_eq]; exact V4_main_arg10 m (outs m) c
/-- Argument 11 ends as it was. -/
theorem W4_arg11 (c : Dev nD) : W4 m c main_arg11 = m ((c : Thread nD τ).loc main_arg11) := by
  rw [← V4_eq]; exact V4_main_arg11 m (outs m) c
/-- Argument 12 ends as it was. -/
theorem W4_arg12 (c : Dev nD) : W4 m c main_arg12 = m ((c : Thread nD τ).loc main_arg12) := by
  rw [← V4_eq]; exact V4_main_arg12 m (outs m) c
/-- The result's array ends at region 1's output. -/
theorem W4_result (c : Dev nD) : W4 m c main_v22 = resultArr m c := by
  unfold W4; exact Function.update_self _ _ _

/-- The run, read at the result and the arguments. -/
theorem run_value : θ_run defs (onTc (τ := τ) (main (F := F))) ⟨m, fun _ => 0, ρ⟩ (fun r =>
    (∀ c : Dev nD, r.2.mem ((c.tc : Thread nD τ).loc main_v22) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0) :=
  (θ_run defs _ _).mono (fun r h => ⟨fun c => ⟨(h.1 c _ (mem_uc main_v22 (by decide))).trans (W4_result m c),
    (h.1 c _ (mem_uc main_arg0 (by decide))).trans (W4_arg0 m c),
    (h.1 c _ (mem_uc main_arg1 (by decide))).trans (W4_arg1 m c),
    (h.1 c _ (mem_uc main_arg2 (by decide))).trans (W4_arg2 m c),
    (h.1 c _ (mem_uc main_arg3 (by decide))).trans (W4_arg3 m c),
    (h.1 c _ (mem_uc main_arg4 (by decide))).trans (W4_arg4 m c),
    (h.1 c _ (mem_uc main_arg5 (by decide))).trans (W4_arg5 m c),
    (h.1 c _ (mem_uc main_arg6 (by decide))).trans (W4_arg6 m c),
    (h.1 c _ (mem_uc main_arg7 (by decide))).trans (W4_arg7 m c),
    (h.1 c _ (mem_uc main_arg8 (by decide))).trans (W4_arg8 m c),
    (h.1 c _ (mem_uc main_arg9 (by decide))).trans (W4_arg9 m c),
    (h.1 c _ (mem_uc main_arg10 (by decide))).trans (W4_arg10 m c),
    (h.1 c _ (mem_uc main_arg11 (by decide))).trans (W4_arg11 m c),
    (h.1 c _ (mem_uc main_arg12 (by decide))).trans (W4_arg12 m c)⟩, h.2⟩) (run m ρ)

end Cert.KernelIdeal.Whole

end
-- ==== Proof.Frames.lean ====
/- The runs of the three programs, as their frames state them. -/
module

public import proofs.«01_k».proof.Defs
public import proofs.«01_k».proof.Proof.Whole
public import proofs.«01_k».proof.Proof.Gen.Kernel
public import proofs.«01_k».proof.Proof.Gen.ReferenceIdeal.Run

@[expose] public section

set_option maxRecDepth 100000

noncomputable section

namespace Cert.Frames

open Idealize.ShloMosaic Idealize.SL.Sem

variable {F : FTy → Type} [FloatOps F]

/-- The kernel as printed and the kernel printed for the ideal instance are one program, -/
theorem main_eq : Cert.Kernel.main (F := F) = Cert.KernelIdeal.main (F := F) := by with_unfolding_all rfl
/-- The first call's body is the same at every point of its grid, -/
theorem label0_eq (a : Cert.KernelIdeal.Λ₀.Args 0) : Cert.Kernel.defs₀ (F := F) .tc 0 a = Cert.KernelIdeal.defs₀ (F := F) .tc 0 a := by
  obtain ⟨t, s⟩ := a
  with_unfolding_all rfl
/-- and the second call's. -/
theorem label1_eq (a : Cert.KernelIdeal.Λ₀.Args 1) : Cert.Kernel.defs₀ (F := F) .tc 1 a = Cert.KernelIdeal.defs₀ (F := F) .tc 1 a := by
  obtain ⟨t, s⟩ := a
  with_unfolding_all rfl

/-- A table of two bodies is its two bodies. -/
theorem table_ext {nD : ℕ} {τ : Topo} {sig : RefSig} {Val : EltTy → Type} {A : Fin 2 → Type} {R : Fin 2 → Type}
    (f g : (ℓ : (⟨Fin 2, A, R⟩ : Labels).Label) → (⟨Fin 2, A, R⟩ : Labels).Args ℓ → Prog (TpuEff nD τ sig Val ⟨Fin 2, A, R⟩ .tc) ((⟨Fin 2, A, R⟩ : Labels).Result ℓ)) (h0 : f (0 : Fin 2) = g (0 : Fin 2)) (h1 : f (1 : Fin 2) = g (1 : Fin 2)) :
    Defs.onTc f = Defs.onTc g := by
  have h : f = g := funext (Fin.forall_fin_two.2 ⟨h0, h1⟩)
  rw [h]

/-- The two programs' tables of bodies are one. -/
theorem bodies_eq : Cert.Kernel.defs₀ (F := F) = Cert.KernelIdeal.defs₀ (F := F) := by
  unfold Cert.Kernel.defs₀ Cert.KernelIdeal.defs₀
  exact table_ext _ _ (funext label0_eq) (funext label1_eq)
/-- So are they with the pipelines'. -/
theorem defs_eq : Cert.Kernel.defs (F := F) = Cert.KernelIdeal.defs (F := F) :=
  congrArg (Pipeline.defs (Cert.KernelIdeal.pcfgs (F := F))) bodies_eq

/-- The idealized kernel runs to its end with its arguments unchanged and every semaphore at zero. -/
theorem kernelIdeal : Cert.quiescent_KernelIdeal := fun m g _ =>
  (θ_run _ _ _).mono (fun _ h => ⟨fun c => (h.1 c).2, h.2⟩) (Cert.KernelIdeal.Whole.run_value (F := Ideal) m g)

/-- The kernel runs to its end with its arguments unchanged and every semaphore at zero. -/
theorem kernel : Cert.quiescent_Kernel := fun m g _ => by
  rw [main_eq, defs_eq]
  exact (θ_run _ _ _).mono (fun _ h => ⟨fun c => (h.1 c).2, h.2⟩) (Cert.KernelIdeal.Whole.run_value (F := Bits) m g)

/-- The reference runs to its end with its arguments unchanged; it has no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Spec.lean ====
/- The pairwise relation scorer and its two-layer graph network as plain sums over extended reals, and what finiteness of
   the scores gives its softmax. -/
module

public import Idealize.ShloMosaic.Lib.Pointwise

@[expose] public section

noncomputable section

namespace Cert.Spec

open Idealize.ShloMosaic

/-! ## The graph network -/

/-- One graph convolution `A (v w) + b`. -/
def conv (v A : Fin 256 → Fin 256 → EReal) (w : Fin 256 → Fin 128 → EReal) (b : Fin 128 → EReal) (i : Fin 256) (n : Fin 128) : EReal :=
  (∑ j : Fin 256, A i j * ∑ k : Fin 256, v j k * w k n) + b n

theorem conv_congr {v v' A A' : Fin 256 → Fin 256 → EReal} {w w' : Fin 256 → Fin 128 → EReal} {b b' : Fin 128 → EReal}
    (hv : ∀ j k, v j k = v' j k) (hA : ∀ i j, A i j = A' i j) (hw : ∀ k n, w k n = w' k n) (hb : ∀ n, b n = b' n) (i : Fin 256) (n : Fin 128) :
    conv v A w b i n = conv v' A' w' b' i n := by
  have ev : v = v' := funext₂ hv
  have eA : A = A' := funext₂ hA
  have ew : w = w' := funext₂ hw
  have eb : b = b' := funext hb
  rw [ev, eA, ew, eb]

/-- One relation's two convolutions side by side, the backward one (the transposed adjacency) first. -/
def rel (A : Fin 256 → Fin 256 → EReal) (fw : Fin 256 → Fin 128 → EReal) (fb : Fin 128 → EReal)
    (bw : Fin 256 → Fin 128 → EReal) (bb : Fin 128 → EReal) (v : Fin 256 → Fin 256 → EReal) (i n : Fin 256) : EReal :=
  if h : n.val < 128 then conv v (fun a b => A b a) bw bb i ⟨n.val, h⟩ else conv v A fw fb i ⟨n.val - 128, by omega⟩

/-- One layer over the three relations, with its linear map and its residual. -/
def layer (A : Fin 3 → Fin 256 → Fin 256 → EReal) (fw : Fin 3 → Fin 256 → Fin 128 → EReal) (fb : Fin 3 → Fin 128 → EReal)
    (bw : Fin 3 → Fin 256 → Fin 128 → EReal) (bb : Fin 3 → Fin 128 → EReal) (lw : Fin 256 → Fin 256 → EReal) (lb : Fin 256 → EReal)
    (v : Fin 256 → Fin 256 → EReal) (i n : Fin 256) : EReal :=
  (∑ k : Fin 256, max (rel (A 0) (fw 0) (fb 0) (bw 0) (bb 0) v i k + rel (A 1) (fw 1) (fb 1) (bw 1) (bb 1) v i k
      + rel (A 2) (fw 2) (fb 2) (bw 2) (bb 2) v i k) 0 * lw k n) + lb n + v i n

/-- A layer from its three relations' contributions. -/
theorem layer_of {A : Fin 3 → Fin 256 → Fin 256 → EReal} {fw : Fin 3 → Fin 256 → Fin 128 → EReal} {fb : Fin 3 → Fin 128 → EReal}
    {bw : Fin 3 → Fin 256 → Fin 128 → EReal} {bb : Fin 3 → Fin 128 → EReal} {lw lw' : Fin 256 → Fin 256 → EReal} {lb lb' : Fin 256 → EReal}
    {v : Fin 256 → Fin 256 → EReal} {a : Fin 3 → Fin 256 → Fin 256 → EReal} (ha : ∀ r i k, a r i k = rel (A r) (fw r) (fb r) (bw r) (bb r) v i k)
    (hw : ∀ k n, lw' k n = lw k n) (hb : ∀ n, lb' n = lb n) (i n : Fin 256) :
    (∑ k : Fin 256, max (a 0 i k + a 1 i k + a 2 i k) 0 * lw' k n) + lb' n + v i n = layer A fw fb bw bb lw lb v i n := by
  have ew : lw' = lw := funext₂ hw
  have eb : lb' = lb := funext hb
  unfold layer
  simp only [ha, ew, eb]

/-- The two layers. -/
def gcn (A : Fin 3 → Fin 256 → Fin 256 → EReal) (fw : Fin 2 → Fin 3 → Fin 256 → Fin 128 → EReal) (fb : Fin 2 → Fin 3 → Fin 128 → EReal)
    (bw : Fin 2 → Fin 3 → Fin 256 → Fin 128 → EReal) (bb : Fin 2 → Fin 3 → Fin 128 → EReal) (lw : Fin 2 → Fin 256 → Fin 256 → EReal)
    (lb : Fin 2 → Fin 256 → EReal) (x : Fin 256 → Fin 256 → EReal) : Fin 256 → Fin 256 → EReal :=
  layer A (fw 1) (fb 1) (bw 1) (bb 1) (lw 1) (lb 1) (layer A (fw 0) (fb 0) (bw 0) (bb 0) (lw 0) (lb 0) x)

/-! ## The scorer -/

/-- The first layer of the scorer on the pair (target `i`, source `j`): its weights read in three row blocks. -/
def hid0 (x : Fin 256 → Fin 256 → EReal) (W0 : Fin 768 → Fin 512 → EReal) (b0 : Fin 512 → EReal) (i j : Fin 256) (h : Fin 512) : EReal :=
  max ((∑ k : Fin 256, x j k * W0 ⟨k.val, by omega⟩ h) + (∑ k : Fin 256, x i k * W0 ⟨256 + k.val, by omega⟩ h)
    + (∑ k : Fin 256, x j k * x i k * W0 ⟨512 + k.val, by omega⟩ h) + b0 h) 0

/-- The second layer, from the first one's values on a pair. -/
def hid1 (g : Fin 512 → EReal) (W1 : Fin 512 → Fin 512 → EReal) (b1 : Fin 512 → EReal) (h : Fin 512) : EReal :=
  max ((∑ k : Fin 512, g k * W1 k h) + b1 h) 0

/-- The three scores, from the second layer's values on a pair. -/
def lin (g : Fin 512 → EReal) (Wo : Fin 512 → Fin 3 → EReal) (bo : Fin 3 → EReal) (r : Fin 3) : EReal :=
  (∑ k : Fin 512, g k * Wo k r) + bo r

/-- The three scores of the pair (target `i`, source `j`). -/
def score (x : Fin 256 → Fin 256 → EReal) (W0 : Fin 768 → Fin 512 → EReal) (b0 : Fin 512 → EReal) (W1 : Fin 512 → Fin 512 → EReal)
    (b1 : Fin 512 → EReal) (Wo : Fin 512 → Fin 3 → EReal) (bo : Fin 3 → EReal) (i j : Fin 256) : Fin 3 → EReal :=
  lin (hid1 (hid0 x W0 b0 i j) W1 b1) Wo bo

/-- The greatest of three scores. -/
def top (s : Fin 3 → EReal) : EReal := max (max (s 0) (s 1)) (s 2)

/-- The softmax's denominator. -/
def den (s : Fin 3 → EReal) : EReal := Ideal.exp (s 0 - top s) + Ideal.exp (s 1 - top s) + Ideal.exp (s 2 - top s)

/-- The softmax of three scores. -/
def prob (s : Fin 3 → EReal) (r : Fin 3) : EReal := Ideal.div (Ideal.exp (s r - top s)) (den s)

/-- The adjacencies: the probabilities off the diagonal, zero on it. -/
def adj (s : Fin 256 → Fin 256 → Fin 3 → EReal) (r : Fin 3) (i j : Fin 256) : EReal := if i = j then 0 else prob (s i j) r

/-! ## Real values -/

/-- An extended real that is a real number. -/
def IsR (a : EReal) : Prop := ∃ r : ℝ, a = (r : EReal)

theorem IsR.add {a b : EReal} : IsR a → IsR b → IsR (a + b) := by
  rintro ⟨r, rfl⟩ ⟨s, rfl⟩; exact ⟨r + s, (EReal.coe_add r s).symm⟩

theorem IsR.mul {a b : EReal} : IsR a → IsR b → IsR (a * b) := by
  rintro ⟨r, rfl⟩ ⟨s, rfl⟩; exact ⟨r * s, (EReal.coe_mul r s).symm⟩

theorem IsR.sup {a b : EReal} (ha : IsR a) (hb : IsR b) : IsR (max a b) := by
  rcases max_choice a b with h | h <;> rw [h] <;> assumption

theorem IsR.zero : IsR 0 := ⟨0, EReal.coe_zero.symm⟩

theorem IsR.sum {ι : Type*} (s : Finset ι) (f : ι → EReal) (h : ∀ i, IsR (f i)) : IsR (∑ i ∈ s, f i) :=
  Finset.sum_induction f IsR (fun _ _ => IsR.add) IsR.zero fun i _ => h i

theorem IsR.of_abs {a : EReal} (h : max a (-a) < ⊤) : IsR a := by
  induction a with
  | bot => simp at h
  | top => simp at h
  | coe r => exact ⟨r, rfl⟩

variable {x : Fin 256 → Fin 256 → EReal} {W0 : Fin 768 → Fin 512 → EReal} {b0 : Fin 512 → EReal} {W1 : Fin 512 → Fin 512 → EReal}
  {b1 : Fin 512 → EReal} {Wo : Fin 512 → Fin 3 → EReal} {bo : Fin 3 → EReal}

/-- Real embeddings, weights and biases give real scores. -/
theorem score_real (hx : ∀ i k, IsR (x i k)) (hW0 : ∀ k h, IsR (W0 k h)) (hb0 : ∀ h, IsR (b0 h)) (hW1 : ∀ k h, IsR (W1 k h))
    (hb1 : ∀ h, IsR (b1 h)) (hWo : ∀ k r, IsR (Wo k r)) (hbo : ∀ r, IsR (bo r)) (i j : Fin 256) (r : Fin 3) :
    IsR (score x W0 b0 W1 b1 Wo bo i j r) := by
  have h0 : ∀ h, IsR (hid0 x W0 b0 i j h) := fun h =>
    ((((IsR.sum _ _ fun k => (hx j k).mul (hW0 _ h)).add (IsR.sum _ _ fun k => (hx i k).mul (hW0 _ h))).add
      (IsR.sum _ _ fun k => ((hx j k).mul (hx i k)).mul (hW0 _ h))).add (hb0 h)).sup IsR.zero
  have h1 : ∀ h, IsR (hid1 (hid0 x W0 b0 i j) W1 b1 h) := fun h =>
    ((IsR.sum _ _ fun k => (h0 k).mul (hW1 k h)).add (hb1 h)).sup IsR.zero
  exact (IsR.sum _ _ fun k => (h1 k).mul (hWo k r)).add (hbo r)

/-- Of real scores the softmax's denominator is a positive real. -/
theorem den_pos {s : Fin 3 → EReal} (hs : ∀ r, IsR (s r)) : ∃ d : ℝ, 0 < d ∧ den s = (d : EReal) := by
  obtain ⟨m, hm⟩ : IsR (top s) := ((hs 0).sup (hs 1)).sup (hs 2)
  have he : ∀ r, ∃ e : ℝ, 0 < e ∧ Ideal.exp (s r - top s) = (e : EReal) := fun r => by
    obtain ⟨a, ha⟩ := hs r
    exact ⟨Real.exp (a - m), Real.exp_pos _, by rw [ha, hm, ← EReal.coe_sub]; rfl⟩
  obtain ⟨e0, p0, h0⟩ := he 0
  obtain ⟨e1, p1, h1⟩ := he 1
  obtain ⟨e2, p2, h2⟩ := he 2
  exact ⟨e0 + e1 + e2, by positivity, by rw [den, h0, h1, h2]; push_cast; rfl⟩

/-- Of real scores the product with the reciprocal of the denominator is the quotient. -/
theorem mul_inv_den {s : Fin 3 → EReal} (hs : ∀ r, IsR (s r)) (e : EReal) : e * Ideal.div 1 (den s) = Ideal.div e (den s) := by
  obtain ⟨d, hd, h⟩ := den_pos hs
  have hne : den s ≠ 0 := by rw [h]; exact_mod_cast hd.ne'
  unfold Ideal.div
  rw [if_neg hne, if_neg hne, one_mul]

end Cert.Spec
-- ==== Proof.ProbsValue.lean ====
/- The probability kernel's body read at an index, on extended reals. -/
module

public import proofs.«01_k».proof.Proof.ProbsBody
public import proofs.«01_k».proof.Proof.Spec
public import Idealize.ShloMosaic.Lib.Pointwise
public import Idealize.ShloMosaic.Lib.Pipeline.Value

@[expose] public section

set_option maxRecDepth 16384

noncomputable section

namespace Cert.KernelIdeal.Probs

open Cert.KernelIdeal Cert.KernelIdeal.Gen
open Idealize.ShloMosaic Idealize.ShloMosaic.TcCoe Idealize.ShloMosaic.Tactic

/-- Column `j` of block `a`. -/
def col (a : Fin 64) (j : Fin 256) : Fin 16384 := ⟨a.val * 256 + j.val, by omega⟩

theorem col_div (a : Fin 64) (j : Fin 256) : (col a j).val / 256 = a.val := by unfold col; dsimp only; omega
theorem col_mod (a : Fin 64) (j : Fin 256) : (col a j).val % 256 = j.val := by unfold col; dsimp only; omega

/-- A product block at an index. -/
theorem pairBlk_at (xi : FVec Ideal S256x64 .bf16) (xT : FVec Ideal S256x256 .bf16) (a : Fin 64) (k j : Fin 256) :
    pairBlk xi xT a (ix2 k j) = xT (ix2 k j) * xi (ix2 k a) := by
  pointwise [pairBlk]

/-- The product blocks side by side at an index. -/
theorem pairs_at (xi : FVec Ideal S256x64 .bf16) (xT : FVec Ideal S256x256 .bf16) (a : Fin 64) (k j : Fin 256) :
    pairs xi xT (ix2 k (col a j)) = xT (ix2 k j) * xi (ix2 k a) := by
  rw [← pairBlk_at]
  exact concatenate_ofFn_apply (t := S256x16384) (s₁ := S256x256) 1 (pairBlk xi xT) (pairCat _) rfl 256 rfl _ a (col_div a j) (ix2 k j)
    (col_mod a j).symm (by intro b hb; match b with | 0 => rfl | 1 => exact absurd rfl hb)

/-- The first layer's product part at an index. -/
theorem prodT_at (w0c : FVec Ideal S512x256 .bf16) (p : FVec Ideal S256x16384 .bf16) (h : Fin 512) (c : Fin 16384) :
    prodT w0c p (ix2 h c) = ∑ k : Fin 256, w0c (ix2 h k) * p (ix2 k c) := by
  pointwise [prodT]

/-- The first layer on a block at an index. -/
theorem hidBlk_at (xbb : FVec Ideal S512x64 .bf16) (h : FVec Ideal S512x16384 .bf16) (xa : FVec Ideal S512x256 .bf16) (a : Fin 64)
    (q : Fin 512) (j : Fin 256) :
    hidBlk xbb h xa a (ix2 q j) = max (h (ix2 q (col a j)) + (xa (ix2 q j) + xbb (ix2 q a))) 0 := by
  pointwise [hidBlk, col]

/-- The first layer at an index. -/
theorem hid_at (xbb : FVec Ideal S512x64 .bf16) (h : FVec Ideal S512x16384 .bf16) (xa : FVec Ideal S512x256 .bf16) (a : Fin 64)
    (q : Fin 512) (j : Fin 256) :
    hid xbb h xa (ix2 q (col a j)) = max (h (ix2 q (col a j)) + (xa (ix2 q j) + xbb (ix2 q a))) 0 := by
  rw [← hidBlk_at]
  exact concatenate_ofFn_apply (t := S512x16384) (s₁ := S512x256) 1 (hidBlk xbb h xa) (hidCat _) rfl 256 rfl _ a (col_div a j) (ix2 q j)
    (col_mod a j).symm (by intro b hb; match b with | 0 => rfl | 1 => exact absurd rfl hb)

/-- The scores at an index. -/
theorem scores_at (h : FVec Ideal S512x16384 .bf16) (w1 : FVec Ideal S512x512 .bf16) (b1 : FVec Ideal S512x1 .f32) (wo : FVec Ideal S3x512 .bf16)
    (bo : FVec Ideal S3x1 .f32) (r : Fin 3) (c : Fin 16384) :
    scores h w1 b1 wo bo (ix2 r c)
      = (∑ k : Fin 512, wo (ix2 r k) * max ((∑ q : Fin 512, w1 (ix2 k q) * h (ix2 q c)) + b1 (ix2 k 0)) 0) + bo (ix2 r 0) := by
  pointwise [scores]

/-- The row term with its bias at an index. -/
theorem pay4_at (x1 : FVec Ideal S1x256x64 .bf16) (x3 : FVec Ideal S512x256 .bf16) (x5 : FVec Ideal S512x1 .f32) (q : Fin 512) (a : Fin 64) :
    k0_pay4 x1 x3 x5 (ix2 q a) = (∑ k : Fin 256, x3 (ix2 q k) * x1 (ix3 0 k a)) + x5 (ix2 q 0) := by
  pointwise [k0_pay4, k0_pay3]

/-- The column term at an index. -/
theorem pay2_at (w : FVec Ideal S512x256 .bf16) (xT : FVec Ideal S256x256 .bf16) (q : Fin 512) (j : Fin 256) :
    k0_pay2 w xT (ix2 q j) = ∑ k : Fin 256, w (ix2 q k) * xT (ix2 k j) := by
  pointwise [k0_pay2]

theorem pay3_at (x1 : FVec Ideal S1x256x64 .bf16) (k : Fin 256) (a : Fin 64) : k0_pay3 x1 (ix2 k a) = x1 (ix3 0 k a) := by
  pointwise [k0_pay3]

theorem pay5_at (x : FVec Ideal S256x256 .bf16) (k j : Fin 256) : k0_pay5 x (ix2 k j) = x (ix2 k j) := by
  pointwise [k0_pay5]

/-- The mask at a column: the pair is off the diagonal. -/
theorem keep_at (t : ℕ) (ht : t < 4) (a : Fin 64) (j : Fin 256) :
    IntOp.cmpi CmpIPredicate.ne (IntOp.andi (BitVec.ofNat 32 (col a j).val) 255#32)
      (IntOp.addi (Scalar.muli (BitVec.ofNat 32 t) 64#32) (IntOp.shrsi ArithUnit.vector (BitVec.ofNat 32 (col a j).val) 8#32))
      = if t * 64 + a.val = j.val then 0#1 else 1#1 := by
  have hj := j.isLt
  have ha := a.isLt
  have hc := (col a j).isLt
  have e1 : IntOp.andi (BitVec.ofNat 32 (col a j).val) 255#32 = BitVec.ofNat 32 j.val := by
    rw [← col_mod a j]
    generalize (col a j).val = n at hc
    apply BitVec.eq_of_toNat_eq
    have h := Nat.and_two_pow_sub_one_eq_mod n 8
    have hn : n % 4294967296 = n := Nat.mod_eq_of_lt (by omega)
    have hm : n % 256 % 4294967296 = n % 256 := Nat.mod_eq_of_lt (by omega)
    simpa [IntOp.andi, BitVec.toNat_and, BitVec.toNat_ofNat, hn, hm] using h
  have e2 : IntOp.shrsi ArithUnit.vector (BitVec.ofNat 32 (col a j).val) 8#32 = BitVec.ofNat 32 a.val := by
    rw [← col_div a j]
    generalize (col a j).val = n at hc
    have hn : n % 4294967296 = n := Nat.mod_eq_of_lt (by omega)
    have hm : n / 256 % 4294967296 = n / 256 := Nat.mod_eq_of_lt (by omega)
    have hmsb : (BitVec.ofNat 32 n).msb = false := by
      rw [BitVec.msb_eq_false_iff_two_mul_lt, BitVec.toNat_ofNat]; omega
    unfold IntOp.shrsi
    rw [if_pos (by decide), BitVec.sshiftRight_eq', BitVec.sshiftRight_eq_of_msb_false hmsb]
    apply BitVec.eq_of_toNat_eq
    simp [BitVec.toNat_ushiftRight, BitVec.toNat_ofNat, hn, hm, Nat.shiftRight_eq_div_pow]
  rw [e1, e2]
  unfold IntOp.cmpi IntOp.addi Scalar.muli IntOp.muli
  have e3 : BitVec.ofNat 32 t * 64#32 + BitVec.ofNat 32 a.val = BitVec.ofNat 32 (t * 64 + a.val) := by
    rw [BitVec.ofNat_add, BitVec.ofNat_mul]
  rw [e3]
  by_cases h : t * 64 + a.val = j.val
  · rw [if_pos h, h]; simp
  · rw [if_neg h]
    have hne : BitVec.ofNat 32 j.val ≠ BitVec.ofNat 32 (t * 64 + a.val) := fun e => h (by
      have := congrArg BitVec.toNat e
      rw [BitVec.toNat_ofNat, BitVec.toNat_ofNat] at this
      omega)
    have hb : (BitVec.ofNat 32 j.val == BitVec.ofNat 32 (t * 64 + a.val)) = false := beq_eq_false_iff_ne.mpr hne
    simp only [bne, hb]
    rfl

/-- The masked softmax at an index. -/
theorem softmax3_at (t : ℕ) (ht : t < 4) (s : FVec Ideal S3x16384 .f32) (r : Fin 3) (a : Fin 64) (j : Fin 256) :
    softmax3 (BitVec.ofNat 32 t) s (ix2 r (col a j))
      = if t * 64 + a.val = j.val then 0 else
          Ideal.exp (s (ix2 r (col a j)) - Spec.top fun r => s (ix2 r (col a j))) * Ideal.div 1 (Spec.den fun r => s (ix2 r (col a j))) := by
  have hk := keep_at t ht a j
  unfold softmax3
  match r with
  | 0 | 1 | 2 =>
    pointwise [k0_pay1]
    rw [hk]
    split
    · rfl
    · rfl

/-- What grid point `t` stores, at relation `r`, target `64 t + a`, source `j`: the masked softmax of the pair's scores. -/
theorem out_at (t : ℕ) (ht : t < 4) (i : grid0.Coords) (hi : (i 0).val = t) (x0 x0' : FVec Ideal S256x256 .bf16) (x1 : FVec Ideal S1x256x64 .bf16)
    (x2 x3 x4 : FVec Ideal S512x256 .bf16) (x5 : FVec Ideal S512x1 .f32) (x6 : FVec Ideal S512x512 .bf16) (x7 : FVec Ideal S512x1 .f32)
    (x8 : FVec Ideal S3x512 .bf16) (x9 : FVec Ideal S3x1 .f32)
    {x : Fin 256 → Fin 256 → EReal} {W0 : Fin 768 → Fin 512 → EReal} {b0 : Fin 512 → EReal} {W1 : Fin 512 → Fin 512 → EReal}
    {b1 : Fin 512 → EReal} {Wo : Fin 512 → Fin 3 → EReal} {bo : Fin 3 → EReal}
    (h0 : ∀ k j, x0 (ix2 k j) = x j k) (h0' : ∀ k j, x0' (ix2 k j) = x j k) (h1 : ∀ k (a : Fin 64), x1 (ix3 0 k a) = x ⟨t * 64 + a.val, by omega⟩ k)
    (h2 : ∀ q (k : Fin 256), x2 (ix2 q k) = W0 ⟨k.val, by omega⟩ q) (h3 : ∀ q (k : Fin 256), x3 (ix2 q k) = W0 ⟨256 + k.val, by omega⟩ q)
    (h4 : ∀ q (k : Fin 256), x4 (ix2 q k) = W0 ⟨512 + k.val, by omega⟩ q) (h5 : ∀ q, x5 (ix2 q 0) = b0 q)
    (h6 : ∀ k q, x6 (ix2 k q) = W1 q k) (h7 : ∀ k, x7 (ix2 k 0) = b1 k) (h8 : ∀ r k, x8 (ix2 r k) = Wo k r) (h9 : ∀ r, x9 (ix2 r 0) = bo r)
    (hs : ∀ i j r, Spec.IsR (Spec.score x W0 b0 W1 b1 Wo bo i j r))
    (r : Fin 3) (a : Fin 64) (j : Fin 256) :
    (out (F := Ideal) i x0 x1 x3 x4 x5 x6 x7 x8 x9 (k0_pay2 (F := Ideal) x2 x0') : FVec Ideal S3x16384 .bf16) (ix2 r (col a j))
      = Spec.adj (Spec.score x W0 b0 W1 b1 Wo bo) r ⟨t * 64 + a.val, by omega⟩ j := by
  have e : ∀ r, scores (F := Ideal) (hid (F := Ideal) (k0_pay4 (F := Ideal) x1 x3 x5) (prodT (F := Ideal) x4 (pairs (F := Ideal) (k0_pay3 (F := Ideal) x1) (k0_pay5 (F := Ideal) x0))) (k0_pay2 (F := Ideal) x2 x0')) x6 x7 x8 x9 (ix2 r (col a j))
      = Spec.score x W0 b0 W1 b1 Wo bo ⟨t * 64 + a.val, by omega⟩ j r := by
    intro r
    rw [scores_at]
    unfold Spec.score Spec.lin Spec.hid1 Spec.hid0
    simp only [hid_at, prodT_at, pairs_at, pay2_at, pay3_at, pay4_at, pay5_at, h0, h0', h1, h2, h3, h4, h5, h6, h7, h8, h9]
    refine congrArg (· + _) (Finset.sum_congr rfl fun k _ => ?_)
    rw [mul_comm]
    refine congrArg (max · 0 * _) (congrArg (· + _) (Finset.sum_congr rfl fun q _ => ?_))
    rw [mul_comm]
    refine congrArg (max · 0 * _) ?_
    simp only [mul_comm (W0 _ _)]
    abel
  unfold out
  rw [hi, softmax3_at t ht]
  unfold Spec.adj
  simp only [e]
  by_cases h : t * 64 + a.val = j.val
  · rw [if_pos h, if_pos (Fin.ext h)]
  · rw [if_neg h, if_neg (fun e => h (congrArg Fin.val e)), Spec.mul_inv_den (hs _ _)]
    rfl

end Cert.KernelIdeal.Probs
-- ==== Proof.ProbsArray.lean ====
/- What the probability kernel leaves in its output array, element by element. -/
module

public import proofs.«01_k».proof.Proof.ProbsRegion
public import proofs.«01_k».proof.Proof.ProbsValue
public import Idealize.ShloMosaic.Lib.Pipeline.ValueKit
public import Idealize.ShloMosaic.Lib.Pointwise

@[expose] public section

set_option maxRecDepth 16384

noncomputable section

namespace Cert.KernelIdeal.Probs

open Cert.KernelIdeal Cert.KernelIdeal.Gen
open Idealize.ShloMosaic Idealize.ShloMosaic.TcCoe Idealize.ShloMosaic.Tactic

/-- The block index of every window at every point. -/
theorem idx : ∀ t : Fin grid0.N, win0_0.index t = ![0, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, t.val] := by
  decide +kernel

theorem coord : ∀ t : Fin grid0.N, (grid0.coords t 0).val = t.val := by decide +kernel

section
variable (V : (c : Dev nD) → (b : Ref sig .tc) → Buf (Elt Ideal) ((c : Thread nD τ).loc b)) (c : Dev nD)

theorem blk0 (t : Fin cfg0.N) (k j : Fin 256) : iblk V c 0 t (ix2 k j) = V c main_v1 (ix2 k j) := by
  blk_ext [iblk, idx t]
theorem blk1 (t : Fin cfg0.N) (k : Fin 256) (a : Fin 64) : iblk V c 1 t (ix3 0 k a) = V c main_v12 (ix3 ⟨t.val, t.isLt⟩ k a) := by
  blk_ext [iblk, idx t]
theorem blk2 (t : Fin cfg0.N) (q : Fin 512) (k : Fin 256) : iblk V c 2 t (ix2 q k) = V c main_v4 (ix2 q k) := by
  blk_ext [iblk, idx t]
theorem blk3 (t : Fin cfg0.N) (q : Fin 512) (k : Fin 256) : iblk V c 3 t (ix2 q k) = V c main_v7 (ix2 q k) := by
  blk_ext [iblk, idx t]
theorem blk4 (t : Fin cfg0.N) (q : Fin 512) (k : Fin 256) : iblk V c 4 t (ix2 q k) = V c main_v10 (ix2 q k) := by
  blk_ext [iblk, idx t]
theorem blk5 (t : Fin cfg0.N) (q : Fin 512) : iblk V c 5 t (ix2 q 0) = V c main_v13 (ix2 q 0) := by
  blk_ext [iblk, idx t]
theorem blk6 (t : Fin cfg0.N) (q k : Fin 512) : iblk V c 6 t (ix2 q k) = V c main_v15 (ix2 q k) := by
  blk_ext [iblk, idx t]
theorem blk7 (t : Fin cfg0.N) (q : Fin 512) : iblk V c 7 t (ix2 q 0) = V c main_v16 (ix2 q 0) := by
  blk_ext [iblk, idx t]
theorem blk8 (t : Fin cfg0.N) (r : Fin 3) (k : Fin 512) : iblk V c 8 t (ix2 r k) = V c main_v18 (ix2 r k) := by
  blk_ext [iblk, idx t]
theorem blk9 (t : Fin cfg0.N) (r : Fin 3) : iblk V c 9 t (ix2 r 0) = V c main_v19 (ix2 r 0) := by
  blk_ext [iblk, idx t]

/-- The column of the output array that holds the pair (target `i`, source `j`). -/
def pairCol (i j : Fin 256) : Fin 65536 := ⟨i.val * 256 + j.val, by omega⟩

/-- The output array's contents as adjacencies. -/
def table (s : Fin 256 → Fin 256 → Fin 3 → EReal) (i : S3x65536.Idx) : EReal :=
  Spec.adj s (i 0) ⟨(i 1).val / 256, by have := ValueIdx.idx2_lt1 i; omega⟩ ⟨(i 1).val % 256, Nat.mod_lt _ (by decide)⟩

theorem table_at (s : Fin 256 → Fin 256 → Fin 3 → EReal) (r : Fin 3) (i j : Fin 256) : table s (ix2 r (pairCol i j)) = Spec.adj s r i j := by
  unfold table
  congr 1
  · apply Fin.ext; show (i.val * 256 + j.val) / 256 = i.val; omega
  · apply Fin.ext; show (i.val * 256 + j.val) % 256 = j.val; omega

variable {x : Fin 256 → Fin 256 → EReal} {W0 : Fin 768 → Fin 512 → EReal} {b0 : Fin 512 → EReal} {W1 : Fin 512 → Fin 512 → EReal}
  {b1 : Fin 512 → EReal} {Wo : Fin 512 → Fin 3 → EReal} {bo : Fin 3 → EReal}

/-- The output array after the region, when the operands hold the embeddings, weights and biases and the scores are real. -/
theorem arr_eq (h0 : ∀ k j : Fin 256, V c main_v1 (ix2 k j) = x j k)
    (h1 : ∀ (t : Fin 4) (k : Fin 256) (a : Fin 64), V c main_v12 (ix3 t k a) = x ⟨t.val * 64 + a.val, by omega⟩ k)
    (h2 : ∀ (q : Fin 512) (k : Fin 256), V c main_v4 (ix2 q k) = W0 ⟨k.val, by omega⟩ q)
    (h3 : ∀ (q : Fin 512) (k : Fin 256), V c main_v7 (ix2 q k) = W0 ⟨256 + k.val, by omega⟩ q)
    (h4 : ∀ (q : Fin 512) (k : Fin 256), V c main_v10 (ix2 q k) = W0 ⟨512 + k.val, by omega⟩ q)
    (h5 : ∀ q : Fin 512, V c main_v13 (ix2 q 0) = b0 q) (h6 : ∀ k q : Fin 512, V c main_v15 (ix2 k q) = W1 q k)
    (h7 : ∀ k : Fin 512, V c main_v16 (ix2 k 0) = b1 k) (h8 : ∀ (r : Fin 3) (k : Fin 512), V c main_v18 (ix2 r k) = Wo k r)
    (h9 : ∀ r : Fin 3, V c main_v19 (ix2 r 0) = bo r)
    (hs : ∀ i j r, Spec.IsR (Spec.score x W0 b0 W1 b1 Wo bo i j r)) :
    (dat V c).arrAt 10 cfg0.N = table (Spec.score x W0 b0 W1 b1 Wo bo) := by
  refine (dat V c).arrAt_eq_of_covers 10 _ (by decide +kernel) fun t hf y => ?_
  blk_simp
  rw [after_out]
  have hy1 : (y 1).val < 16384 := (y 1).isLt
  have ht : t.val < 4 := t.isLt
  let r : Fin 3 := y 0
  let a : Fin 64 := ⟨(y 1).val / 256, by omega⟩
  let j : Fin 256 := ⟨(y 1).val % 256, Nat.mod_lt _ (by decide)⟩
  have hy : (y : S3x16384.Idx) = ix2 r (col a j) := by
    refine (eq_ix2 (n0 := 3) (n1 := 16384) y).trans (congrArg (ix2 _) (Fin.ext ?_))
    show (y 1).val = (y 1).val / 256 * 256 + (y 1).val % 256
    omega
  have he : (win0_10.blk t).view.emb y = ix2 r (pairCol ⟨t.val * 64 + a.val, by omega⟩ j) := by
    have hp : (pairCol ⟨t.val * 64 + a.val, by omega⟩ j).val = (t.val * 64 + (y 1).val / 256) * 256 + (y 1).val % 256 := rfl
    blk_ext [idx t]
  refine Eq.trans ?_ ((congrArg (table _) he).trans (table_at _ r _ j)).symm
  refine (congrArg (out (F := Ideal) (grid0.coords t) (iblk V c 0 t) (iblk V c 1 t) (iblk V c 3 t) (iblk V c 4 t) (iblk V c 5 t) (iblk V c 6 t)
    (iblk V c 7 t) (iblk V c 8 t) (iblk V c 9 t) (carried V c)) hy).trans ?_
  exact out_at t.val ht (grid0.coords t) (coord t) _ _ _ _ _ _ _ _ _ _ _
    (fun k j => (blk0 V c t k j).trans (h0 k j)) (fun k j => (blk0 V c t0_0 k j).trans (h0 k j)) (fun k a => (blk1 V c t k a).trans (h1 _ k a))
    (fun q k => (blk2 V c t0_0 q k).trans (h2 q k)) (fun q k => (blk3 V c t q k).trans (h3 q k)) (fun q k => (blk4 V c t q k).trans (h4 q k))
    (fun q => (blk5 V c t q).trans (h5 q)) (fun q k => (blk6 V c t q k).trans (h6 q k)) (fun q => (blk7 V c t q).trans (h7 q))
    (fun r k => (blk8 V c t r k).trans (h8 r k)) (fun r => (blk9 V c t r).trans (h9 r)) hs r a j
end

end Cert.KernelIdeal.Probs
-- ==== Proof.GcnValue.lean ====
/- The graph network kernel's body read at an index, on extended reals. -/
module

public import proofs.«01_k».proof.Proof.Gcn
public import proofs.«01_k».proof.Proof.Spec
public import Idealize.ShloMosaic.Lib.Pointwise

@[expose] public section

set_option maxRecDepth 16384

noncomputable section

namespace Cert.KernelIdeal.Gcn

open Cert.KernelIdeal Cert.KernelIdeal.Gen
open Idealize.ShloMosaic Idealize.ShloMosaic.TcCoe Idealize.ShloMosaic.Tactic

/-- A convolution at an index. -/
theorem conv_at (v adj : FVec Ideal S256x256 .f32) (w : Vec Ideal S1x1x256x128 .f32) (b : Vec Ideal S1x1x128 .f32) (i : Fin 256) (n : Fin 128) :
    conv v adj w b (ix2 i n) = Spec.conv (fun j k => v (ix2 j k)) (fun i j => adj (ix2 i j)) (fun k n => w (ix4 0 0 k n)) (fun n => b (ix3 0 0 n)) i n := by
  unfold conv mul128 Spec.conv
  pointwise []

/-- A relation's slab of the adjacencies. -/
theorem ld_adj (x0 : Vec Ideal S3x256x256 .bf16) (r : Fin 3) (i j : Fin 256) : View.ld x0 (rAdj r) (ix3 0 i j) = x0 (ix3 r i j) := by
  pointwise [View.ld]
/-- A relation's slab of a layer's weights. -/
theorem ld_w (x : Vec Ideal S2x3x256x128 .f32) (l : Fin 2) (r : Fin 3) (k : Fin 256) (n : Fin 128) :
    View.ld x (rW l r) (ix4 0 0 k n) = x (ix4 l r k n) := by
  pointwise [View.ld]
/-- A relation's slab of a layer's biases. -/
theorem ld_b (x : Vec Ideal S2x3x128 .f32) (l : Fin 2) (r : Fin 3) (n : Fin 128) : View.ld x (rB l r) (ix3 0 0 n) = x (ix3 l r n) := by
  pointwise [View.ld]
/-- A layer's linear weights. -/
theorem ld_lw (x : Vec Ideal S2x256x256 .f32) (l : Fin 2) (k n : Fin 256) : View.ld x (rLW l) (ix3 0 k n) = x (ix3 l k n) := by
  pointwise [View.ld]
/-- A layer's linear biases. -/
theorem ld_lb (x : Vec Ideal S2x256 .f32) (l : Fin 2) (n : Fin 256) : View.ld x (rLB l) (ix2 0 n) = x (ix2 l n) := by
  pointwise [View.ld]

/-- The widened adjacency. -/
theorem pay1_at (x : Vec Ideal S1x256x256 .bf16) (i j : Fin 256) : k1_pay1 x (ix2 i j) = x (ix3 0 i j) := by
  pointwise [k1_pay1]
/-- The transposed adjacency. -/
theorem pay4_at (x : Vec Ideal S1x256x256 .bf16) (i j : Fin 256) : k1_pay4 x (ix2 i j) = x (ix3 0 j i) := by
  pointwise [k1_pay4, k1_pay1]

/-- Two halves side by side at an index. -/
theorem cat_at (a b : FVec Ideal S256x128 .f32) (i n : Fin 256) :
    concatenate S256x256 1 [⟨S256x128, a⟩, ⟨S256x128, b⟩] concatenates_S256x128_S256x128_S256x256_d1 (ix2 i n)
      = if h : n.val < 128 then a (ix2 i ⟨n.val, h⟩) else b (ix2 i ⟨n.val - 128, by omega⟩) := by
  pointwise []

section
variable (x0 : Vec Ideal S3x256x256 .bf16) (x1 : Vec Ideal S256x256 .f32) (x2 : Vec Ideal S2x3x256x128 .f32) (x3 : Vec Ideal S2x3x128 .f32)
  (x4 : Vec Ideal S2x3x256x128 .f32) (x5 : Vec Ideal S2x3x128 .f32) (x6 : Vec Ideal S2x256x256 .f32) (x7 : Vec Ideal S2x256 .f32)

/-- A relation's contribution at an index. -/
theorem rel_at (l : Fin 2) (r : Fin 3) (v : FVec Ideal S256x256 .f32) (i n : Fin 256) :
    rel l r x0 x2 x3 x4 x5 v (ix2 i n)
      = Spec.rel (fun i j => x0 (ix3 r i j)) (fun k n => x2 (ix4 l r k n)) (fun n => x3 (ix3 l r n)) (fun k n => x4 (ix4 l r k n))
          (fun n => x5 (ix3 l r n)) (fun i j => v (ix2 i j)) i n := by
  unfold rel Spec.rel
  rw [cat_at]
  refine dite_congr rfl (fun h => ?_) (fun h => ?_)
  · exact (conv_at _ _ _ _ _ _).trans (Spec.conv_congr (fun _ _ => rfl) (fun a b => (pay4_at _ _ _).trans (ld_adj x0 r b a))
      (fun k n => ld_w x4 l r k n) (fun n => ld_b x5 l r n) _ _)
  · exact (conv_at _ _ _ _ _ _).trans (Spec.conv_congr (fun _ _ => rfl) (fun a b => (pay1_at _ _ _).trans (ld_adj x0 r a b))
      (fun k n => ld_w x2 l r k n) (fun n => ld_b x3 l r n) _ _)

/-- A layer's rectifier, linear map and residual at an index. -/
theorem linear_at (a0 a1 a2 v : FVec Ideal S256x256 .f32) (w : FVec Ideal S1x256x256 .f32) (b : FVec Ideal S1x256 .f32) (i n : Fin 256) :
    addf (addf (matmul (φ₁ := .f32) (φ₂ := .f32) dot_S256x256_S256x256_S256x256_1_0_0_1_n_n none
      (maximumf (addf (addf (addf k1_pay7 a0) a1) a2) (broadcast S256x256 (Scalar.ofBits .f32 0x00000000#32)))
      (shapeCast S256x256 w shapeCasts_S1x256x256_S256x256) (constant S256x256 .f32 0x00000000#32))
    (broadcastTo S256x256 (shapeCast S1x256 (shapeCast S256 b shapeCasts_S1x256_S256) shapeCasts_S256_S1x256)
      broadcasts_S1x256_S256x256)) v (ix2 i n)
      = (∑ k : Fin 256, max (a0 (ix2 i k) + a1 (ix2 i k) + a2 (ix2 i k)) 0 * w (ix3 0 k n)) + b (ix2 0 n) + v (ix2 i n) := by
  pointwise [k1_pay7]

/-- A layer at an index. -/
theorem layer_at (l : Fin 2) (v : FVec Ideal S256x256 .f32) (i n : Fin 256) :
    layer l x0 x2 x3 x4 x5 x6 x7 v (ix2 i n)
      = Spec.layer (fun r i j => x0 (ix3 r i j)) (fun r k n => x2 (ix4 l r k n)) (fun r n => x3 (ix3 l r n)) (fun r k n => x4 (ix4 l r k n))
          (fun r n => x5 (ix3 l r n)) (fun k n => x6 (ix3 l k n)) (fun n => x7 (ix2 l n)) (fun i j => v (ix2 i j)) i n := by
  unfold layer
  refine (linear_at _ _ _ _ _ _ _ _).trans ?_
  exact Spec.layer_of (a := fun r i k => rel l r x0 x2 x3 x4 x5 v (ix2 i k)) (fun r i k => rel_at x0 x2 x3 x4 x5 l r v i k)
    (fun k n => ld_lw x6 l k n) (fun n => ld_lb x7 l n) i n

/-- The stored block at an index: the two layers. -/
theorem out_at (i n : Fin 256) :
    out x0 x1 x2 x3 x4 x5 x6 x7 (ix2 i n)
      = Spec.gcn (fun r i j => x0 (ix3 r i j)) (fun l r k n => x2 (ix4 l r k n)) (fun l r n => x3 (ix3 l r n)) (fun l r k n => x4 (ix4 l r k n))
          (fun l r n => x5 (ix3 l r n)) (fun l k n => x6 (ix3 l k n)) (fun l n => x7 (ix2 l n)) (fun i j => x1 (ix2 i j)) i n := by
  unfold out Spec.gcn
  simp only [layer_at]
end

end Cert.KernelIdeal.Gcn
-- ==== Proof.GcnArray.lean ====
/- What the graph network kernel leaves in its output array, element by element. -/
module

public import proofs.«01_k».proof.Proof.GcnRegion
public import proofs.«01_k».proof.Proof.GcnValue
public import Idealize.ShloMosaic.Lib.Pipeline.ValueKit
public import Idealize.ShloMosaic.Lib.Pointwise

@[expose] public section

set_option maxRecDepth 16384

noncomputable section

namespace Cert.KernelIdeal.Gcn

open Cert.KernelIdeal Cert.KernelIdeal.Gen
open Idealize.ShloMosaic Idealize.ShloMosaic.TcCoe Idealize.ShloMosaic.Tactic

/-- The block index of every window at the one point. -/
theorem idx : ∀ t : Fin grid1.N, win1_0.index t = ![0, 0, 0] ∧ win1_1.index t = ![0, 0] ∧ win1_2.index t = ![0, 0, 0, 0]
    ∧ win1_3.index t = ![0, 0, 0] ∧ win1_4.index t = ![0, 0, 0, 0] ∧ win1_5.index t = ![0, 0, 0] ∧ win1_6.index t = ![0, 0, 0]
    ∧ win1_7.index t = ![0, 0] ∧ win1_8.index t = ![0, 0] := by
  decide +kernel

section
variable (V : (c : Dev nD) → (b : Ref sig .tc) → Buf (Elt Ideal) ((c : Thread nD τ).loc b)) (c : Dev nD)

theorem blk0 (t : Fin cfg1.N) (r : Fin 3) (i j : Fin 256) : iblk V c 0 t (ix3 r i j) = V c main_v21 (ix3 r i j) := by
  blk_ext [iblk, idx t]
theorem blk1 (t : Fin cfg1.N) (i j : Fin 256) : iblk V c 1 t (ix2 i j) = V c main_arg0 (ix2 i j) := by
  blk_ext [iblk, idx t]
theorem blk2 (t : Fin cfg1.N) (l : Fin 2) (r : Fin 3) (k : Fin 256) (n : Fin 128) : iblk V c 2 t (ix4 l r k n) = V c main_arg7 (ix4 l r k n) := by
  blk_ext [iblk, idx t]
theorem blk3 (t : Fin cfg1.N) (l : Fin 2) (r : Fin 3) (n : Fin 128) : iblk V c 3 t (ix3 l r n) = V c main_arg8 (ix3 l r n) := by
  blk_ext [iblk, idx t]
theorem blk4 (t : Fin cfg1.N) (l : Fin 2) (r : Fin 3) (k : Fin 256) (n : Fin 128) : iblk V c 4 t (ix4 l r k n) = V c main_arg9 (ix4 l r k n) := by
  blk_ext [iblk, idx t]
theorem blk5 (t : Fin cfg1.N) (l : Fin 2) (r : Fin 3) (n : Fin 128) : iblk V c 5 t (ix3 l r n) = V c main_arg10 (ix3 l r n) := by
  blk_ext [iblk, idx t]
theorem blk6 (t : Fin cfg1.N) (l : Fin 2) (k n : Fin 256) : iblk V c 6 t (ix3 l k n) = V c main_arg11 (ix3 l k n) := by
  blk_ext [iblk, idx t]
theorem blk7 (t : Fin cfg1.N) (l : Fin 2) (n : Fin 256) : iblk V c 7 t (ix2 l n) = V c main_arg12 (ix2 l n) := by
  blk_ext [iblk, idx t]

variable {A : Fin 3 → Fin 256 → Fin 256 → EReal} {fw : Fin 2 → Fin 3 → Fin 256 → Fin 128 → EReal} {fb : Fin 2 → Fin 3 → Fin 128 → EReal}
  {bw : Fin 2 → Fin 3 → Fin 256 → Fin 128 → EReal} {bb : Fin 2 → Fin 3 → Fin 128 → EReal} {lw : Fin 2 → Fin 256 → Fin 256 → EReal}
  {lb : Fin 2 → Fin 256 → EReal} {x : Fin 256 → Fin 256 → EReal}

/-- The output array after the region, when the operands hold the adjacencies, features, weights and biases. -/
theorem arr_eq (h0 : ∀ (r : Fin 3) (i j : Fin 256), V c main_v21 (ix3 r i j) = A r i j)
    (h1 : ∀ i j : Fin 256, V c main_arg0 (ix2 i j) = x i j)
    (h2 : ∀ (l : Fin 2) (r : Fin 3) (k : Fin 256) (n : Fin 128), V c main_arg7 (ix4 l r k n) = fw l r k n)
    (h3 : ∀ (l : Fin 2) (r : Fin 3) (n : Fin 128), V c main_arg8 (ix3 l r n) = fb l r n)
    (h4 : ∀ (l : Fin 2) (r : Fin 3) (k : Fin 256) (n : Fin 128), V c main_arg9 (ix4 l r k n) = bw l r k n)
    (h5 : ∀ (l : Fin 2) (r : Fin 3) (n : Fin 128), V c main_arg10 (ix3 l r n) = bb l r n)
    (h6 : ∀ (l : Fin 2) (k n : Fin 256), V c main_arg11 (ix3 l k n) = lw l k n)
    (h7 : ∀ (l : Fin 2) (n : Fin 256), V c main_arg12 (ix2 l n) = lb l n) :
    (dat V c).arrAt 8 cfg1.N = fun i : S256x256.Idx => Spec.gcn A fw fb bw bb lw lb x (i 0) (i 1) := by
  refine (dat V c).arrAt_eq_of_covers 8 _ (by decide +kernel) fun t hf y => ?_
  blk_simp
  rw [after_out]
  let i : Fin 256 := y 0
  let n : Fin 256 := y 1
  have hy : (y : S256x256.Idx) = ix2 i n := eq_ix2 (n0 := 256) (n1 := 256) y
  have he : (win1_8.blk t).view.emb y = ix2 i n := by
    blk_ext [idx t]
  refine Eq.trans ?_ (congrArg (fun i : S256x256.Idx => Spec.gcn A fw fb bw bb lw lb x (i 0) (i 1)) he).symm
  refine (congrArg (out (F := Ideal) (iblk V c 0 t) (iblk V c 1 t) (iblk V c 2 t) (iblk V c 3 t) (iblk V c 4 t) (iblk V c 5 t) (iblk V c 6 t)
    (iblk V c 7 t)) hy).trans ?_
  refine (out_at _ _ _ _ _ _ _ _ i n).trans ?_
  have e0 : (fun (r : Fin 3) (i j : Fin 256) => (iblk V c 0 t (ix3 r i j) : EReal)) = A := funext fun r => funext fun i => funext fun j => (blk0 V c t r i j).trans (h0 r i j)
  have e1 : (fun (i j : Fin 256) => (iblk V c 1 t (ix2 i j) : EReal)) = x := funext fun i => funext fun j => (blk1 V c t i j).trans (h1 i j)
  have e2 : (fun (l : Fin 2) (r : Fin 3) (k : Fin 256) (n : Fin 128) => (iblk V c 2 t (ix4 l r k n) : EReal)) = fw :=
    funext fun l => funext fun r => funext fun k => funext fun n => (blk2 V c t l r k n).trans (h2 l r k n)
  have e3 : (fun (l : Fin 2) (r : Fin 3) (n : Fin 128) => (iblk V c 3 t (ix3 l r n) : EReal)) = fb :=
    funext fun l => funext fun r => funext fun n => (blk3 V c t l r n).trans (h3 l r n)
  have e4 : (fun (l : Fin 2) (r : Fin 3) (k : Fin 256) (n : Fin 128) => (iblk V c 4 t (ix4 l r k n) : EReal)) = bw :=
    funext fun l => funext fun r => funext fun k => funext fun n => (blk4 V c t l r k n).trans (h4 l r k n)
  have e5 : (fun (l : Fin 2) (r : Fin 3) (n : Fin 128) => (iblk V c 5 t (ix3 l r n) : EReal)) = bb :=
    funext fun l => funext fun r => funext fun n => (blk5 V c t l r n).trans (h5 l r n)
  have e6 : (fun (l : Fin 2) (k n : Fin 256) => (iblk V c 6 t (ix3 l k n) : EReal)) = lw :=
    funext fun l => funext fun k => funext fun n => (blk6 V c t l k n).trans (h6 l k n)
  have e7 : (fun (l : Fin 2) (n : Fin 256) => (iblk V c 7 t (ix2 l n) : EReal)) = lb :=
    funext fun l => funext fun n => (blk7 V c t l n).trans (h7 l n)
  subst e0 e1 e2 e3 e4 e5 e6 e7
  rfl
end

end Cert.KernelIdeal.Gcn
-- ==== Proof.HostValue.lean ====
/- What the host's own operations hand to the two calls, element by element of the program's arguments. -/
module

public import proofs.«01_k».proof.Proof.Whole
public import proofs.«01_k».proof.Proof.ProbsArray
public import proofs.«01_k».proof.Proof.GcnArray
public import Idealize.ShloMosaic.Lib.StableHlo.ReadAt
public import Idealize.ShloMosaic.Lib.Pointwise
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The program's arguments, by name -/

def xM (i j : Fin 256) : EReal := m (c.tc.loc main_arg0) (ix2 i j)
def w0M (k : Fin 768) (h : Fin 512) : EReal := m (c.tc.loc main_arg1) (ix2 k h)
def b0M (h : Fin 512) : EReal := m (c.tc.loc main_arg2) (ix1 h)
def w1M (k h : Fin 512) : EReal := m (c.tc.loc main_arg3) (ix2 k h)
def b1M (h : Fin 512) : EReal := m (c.tc.loc main_arg4) (ix1 h)
def woM (k : Fin 512) (r : Fin 3) : EReal := m (c.tc.loc main_arg5) (ix2 k r)
def boM (r : Fin 3) : EReal := m (c.tc.loc main_arg6) (ix1 r)

theorem v1_at (k j : Fin 256) : W1 m c main_v1 (ix2 k j) = xM m c j k := by
  unfold W1 V1; after_reads_at
  rfl
theorem v12_at (t : Fin 4) (k : Fin 256) (a : Fin 64) : W1 m c main_v12 (ix3 t k a) = xM m c ⟨t.val * 64 + a.val, by omega⟩ k := by
  unfold W1 V1; after_reads_at
  rfl
theorem v4_at (q : Fin 512) (k : Fin 256) : W1 m c main_v4 (ix2 q k) = w0M m c ⟨k.val, by omega⟩ q := by
  unfold W1 V1; after_reads_at
  rfl
theorem v7_at (q : Fin 512) (k : Fin 256) : W1 m c main_v7 (ix2 q k) = w0M m c ⟨256 + k.val, by omega⟩ q := by
  unfold W1 V1; after_reads_at
  rfl
theorem v10_at (q : Fin 512) (k : Fin 256) : W1 m c main_v10 (ix2 q k) = w0M m c ⟨512 + k.val, by omega⟩ q := by
  unfold W1 V1; after_reads_at
  rfl
theorem v13_at (q : Fin 512) : W1 m c main_v13 (ix2 q 0) = b0M m c q := by
  unfold W1 V1; after_reads_at
  rfl
theorem v15_at (k q : Fin 512) : W1 m c main_v15 (ix2 k q) = w1M m c q k := by
  unfold W1 V1; after_reads_at
  rfl
theorem v16_at (k : Fin 512) : W1 m c main_v16 (ix2 k 0) = b1M m c k := by
  unfold W1 V1; after_reads_at
  rfl
theorem v18_at (r : Fin 3) (k : Fin 512) : W1 m c main_v18 (ix2 r k) = woM m c k r := by
  unfold W1 V1; after_reads_at
  rfl
theorem v19_at (r : Fin 3) : W1 m c main_v19 (ix2 r 0) = boM m c r := by
  unfold W1 V1; after_reads_at
  rfl

theorem W2_v20 : W2 m c main_v20 = probsArr m c := by
  unfold W2; exact Function.update_self _ _ _
/-- The second call's operand is the first call's array, its columns cut into rows. -/
theorem v21_at (r : Fin 3) (i j : Fin 256) : W3 m c main_v21 (ix3 r i j) = probsArr m c (ix2 r (Probs.pairCol i j)) := by
  unfold W3; after_reads_at
  exact congrFun (W2_v20 m c) (ix2 r (Probs.pairCol i j))

/-- The relation scores of the arguments. -/
def scoresM : Fin 256 → Fin 256 → Fin 3 → EReal :=
  Spec.score (xM m c) (w0M m c) (b0M m c) (w1M m c) (b1M m c) (woM m c) (boM m c)

/-- The first call's array: the masked probabilities of the scores. -/
theorem probsArr_eq (hs : ∀ i j r, Spec.IsR (scoresM m c i j r)) : probsArr m c = Probs.table (scoresM m c) := by
  unfold probsArr
  exact Probs.arr_eq (fun c b => W1 m c b) c (v1_at m c) (v12_at m c) (v4_at m c) (v7_at m c) (v10_at m c) (v13_at m c) (v15_at m c)
    (v16_at m c) (v18_at m c) (v19_at m c) hs

/-- A buffer neither the host nor the first call writes reaches the second call unchanged. -/
theorem W3_of (r : Ref sig .tc) (h0 : r ∉ hostOps0_W) (h1 : r ∉ ([main_v20] : List (Ref sig .tc))) (h2 : r ∉ hostOps1_W) :
    W3 m c r = m (c.tc.loc r) := by
  rw [← V3_eq m c]
  exact ((V3_of m (outs m) c r h2).trans (V2_of m (outs m) c r h1)).trans (V1_of m c r h0)

/-- The program's result, element by element, of its arguments. -/
theorem result_at (hs : ∀ i j r, Spec.IsR (scoresM m c i j r)) :
    resultArr m c = fun i : S256x256.Idx => Spec.gcn (Spec.adj (scoresM m c))
      (fun l r k n => m (c.tc.loc main_arg7) (ix4 l r k n)) (fun l r n => m (c.tc.loc main_arg8) (ix3 l r n))
      (fun l r k n => m (c.tc.loc main_arg9) (ix4 l r k n)) (fun l r n => m (c.tc.loc main_arg10) (ix3 l r n))
      (fun l k n => m (c.tc.loc main_arg11) (ix3 l k n)) (fun l n => m (c.tc.loc main_arg12) (ix2 l n)) (xM m c) (i 0) (i 1) := by
  unfold resultArr
  refine Gcn.arr_eq (fun c b => W3 m c b) c (fun r i j => ?_) (fun i j => ?_) (fun l r k n => ?_) (fun l r n => ?_) (fun l r k n => ?_)
    (fun l r n => ?_) (fun l k n => ?_) (fun l n => ?_)
  · exact (v21_at m c r i j).trans ((congrFun (probsArr_eq m c hs) _).trans (Probs.table_at _ r i j))
  · exact congrFun (W3_of m c main_arg0 (by decide) (by decide) (by decide)) _
  · exact congrFun (W3_of m c main_arg7 (by decide) (by decide) (by decide)) _
  · exact congrFun (W3_of m c main_arg8 (by decide) (by decide) (by decide)) _
  · exact congrFun (W3_of m c main_arg9 (by decide) (by decide) (by decide)) _
  · exact congrFun (W3_of m c main_arg10 (by decide) (by decide) (by decide)) _
  · exact congrFun (W3_of m c main_arg11 (by decide) (by decide) (by decide)) _
  · exact congrFun (W3_of m c main_arg12 (by decide) (by decide) (by decide)) _

end Cert.KernelIdeal.Whole
-- ==== Proof.RefGcn.lean ====
/- The reference's graph network, element by element. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.StableHlo Idealize.ShloMosaic.TcCoe Idealize.ShloMosaic.Tactic

/-! ## Reading a layer's and a relation's weights -/

theorem w4_at (w : FVec Ideal S2x3x256x128 .f32) (l : Fin 2) (r : Fin 3) (h : S2x3x256x128.Slices ![l.val, r.val, 0, 0] S1x1x256x128)
    (k : Fin 256) (n : Fin 128) :
    shapeCast S256x128 (extractStridedSlice S1x1x256x128 ![l.val, r.val, 0, 0] w h) shapeCasts_S1x1x256x128_S256x128 (ix2 k n)
      = w (ix4 l r k n) := by
  pointwise

theorem b3_at (w : FVec Ideal S2x3x128 .f32) (l : Fin 2) (r : Fin 3) (h : S2x3x128.Slices ![l.val, r.val, 0] S1x1x128) (n : Fin 128) :
    shapeCast S128 (extractStridedSlice S1x1x128 ![l.val, r.val, 0] w h) shapeCasts_S1x1x128_S128 (ix1 n) = w (ix3 l r n) := by
  pointwise

theorem l3_at (w : FVec Ideal S2x256x256 .f32) (l : Fin 2) (h : S2x256x256.Slices ![l.val, 0, 0] S1x256x256) (k n : Fin 256) :
    shapeCast S256x256 (extractStridedSlice S1x256x256 ![l.val, 0, 0] w h) shapeCasts_S1x256x256_S256x256 (ix2 k n) = w (ix3 l k n) := by
  pointwise

theorem l2_at (w : FVec Ideal S2x256 .f32) (l : Fin 2) (h : S2x256.Slices ![l.val, 0] S1x256) (n : Fin 256) :
    shapeCast S256 (extractStridedSlice S1x256 ![l.val, 0] w h) shapeCasts_S1x256_S256 (ix1 n) = w (ix2 l n) := by
  pointwise

/-- One relation's two convolutions side by side. -/
def relH (A v : FVec Ideal S256x256 .f32) (wb wf : FVec Ideal S256x128 .f32) (bb bf : FVec Ideal S128 .f32) : FVec Ideal S256x256 .f32 :=
  concatenate S256x256 1 [⟨S256x128, (addf (Host.dotGeneral dot_S256x256_S256x128_S256x128_1_0_0_1_n_n none (transpose S256x256 [1, 0] A transposes_S256x256_S256x256_1_0) (Host.dotGeneral dot_S256x256_S256x128_S256x128_1_0_0_1_n_n none v wb)) (broadcastInDim S256x128 ![0, 1] bcast_S1x128_S256x128_0_1 (broadcastInDim S1x128 ![1] bcast_S128_S1x128_1 bb)))⟩,
    ⟨S256x128, (addf (Host.dotGeneral dot_S256x256_S256x128_S256x128_1_0_0_1_n_n none A (Host.dotGeneral dot_S256x256_S256x128_S256x128_1_0_0_1_n_n none v wf)) (broadcastInDim S256x128 ![0, 1] bcast_S1x128_S256x128_0_1 (broadcastInDim S1x128 ![1] bcast_S128_S1x128_1 bf)))⟩] concatenates_S256x128_S256x128_S256x256_d1

theorem relH_at (A v : FVec Ideal S256x256 .f32) (wb wf : FVec Ideal S256x128 .f32) (bb bf : FVec Ideal S128 .f32) (i n : Fin 256) :
    relH A v wb wf bb bf (ix2 i n) = Spec.rel (fun i j => A (ix2 i j)) (fun k n => wf (ix2 k n)) (fun n => bf (ix1 n))
      (fun k n => wb (ix2 k n)) (fun n => bb (ix1 n)) (fun i j => v (ix2 i j)) i n := by
  unfold Spec.rel Spec.conv
  pointwise [relH]

/-- A layer from the three relations' contributions, with its linear map and its residual. -/
def layH (a0 a1 a2 : FVec Ideal S256x256 .f32) (w : FVec Ideal S256x256 .f32) (b : FVec Ideal S256 .f32) (v : FVec Ideal S256x256 .f32) :
    FVec Ideal S256x256 .f32 :=
  addf (addf (Host.dotGeneral dot_S256x256_S256x256_S256x256_1_0_0_1_n_n none (maximumf (addf (addf (addf (broadcastInDim S256x256 ![] bcast_S_S256x256 (constant S_ .f32 0x00000000#32)) a0) a1) a2) (broadcastInDim S256x256 ![] bcast_S_S256x256 (constant S_ .f32 0x00000000#32))) w)
    (broadcastInDim S256x256 ![0, 1] bcast_S1x256_S256x256_0_1 (broadcastInDim S1x256 ![1] bcast_S256_S1x256_1 b))) v

theorem layH_at (a0 a1 a2 : FVec Ideal S256x256 .f32) (w : FVec Ideal S256x256 .f32) (b : FVec Ideal S256 .f32) (v : FVec Ideal S256x256 .f32)
    (i n : Fin 256) :
    layH a0 a1 a2 w b v (ix2 i n) = (∑ k : Fin 256, max (a0 (ix2 i k) + a1 (ix2 i k) + a2 (ix2 i k)) 0 * w (ix2 k n)) + b (ix1 n) + v (ix2 i n) := by
  pointwise [layH]

/-! ## The layers -/

/-- Relation `r`'s contribution in layer `l`. -/
def relL (V : Valuation τ sig (Elt Ideal)) (A v : FVec Ideal S256x256 .f32) (l r : ℕ) (h4 : S2x3x256x128.Slices ![l, r, 0, 0] S1x1x256x128)
    (h3 : S2x3x128.Slices ![l, r, 0] S1x1x128) : FVec Ideal S256x256 .f32 :=
  relH A v (shapeCast S256x128 (extractStridedSlice S1x1x256x128 ![l, r, 0, 0] (V (Proc.devRef .tc main_arg9)) h4) shapeCasts_S1x1x256x128_S256x128)
    (shapeCast S256x128 (extractStridedSlice S1x1x256x128 ![l, r, 0, 0] (V (Proc.devRef .tc main_arg7)) h4) shapeCasts_S1x1x256x128_S256x128)
    (shapeCast S128 (extractStridedSlice S1x1x128 ![l, r, 0] (V (Proc.devRef .tc main_arg10)) h3) shapeCasts_S1x1x128_S128)
    (shapeCast S128 (extractStridedSlice S1x1x128 ![l, r, 0] (V (Proc.devRef .tc main_arg8)) h3) shapeCasts_S1x1x128_S128)

/-- Layer `l` of the network. -/
def layL (V : Valuation τ sig (Elt Ideal)) (A0 A1 A2 v : FVec Ideal S256x256 .f32) (l : ℕ)
    (h4 : ∀ r : Fin 3, S2x3x256x128.Slices ![l, r.val, 0, 0] S1x1x256x128) (h3 : ∀ r : Fin 3, S2x3x128.Slices ![l, r.val, 0] S1x1x128)
    (hw : S2x256x256.Slices ![l, 0, 0] S1x256x256) (hb : S2x256.Slices ![l, 0] S1x256) : FVec Ideal S256x256 .f32 :=
  layH (relL V A0 v l 0 (h4 0) (h3 0)) (relL V A1 v l 1 (h4 1) (h3 1)) (relL V A2 v l 2 (h4 2) (h3 2))
    (shapeCast S256x256 (extractStridedSlice S1x256x256 ![l, 0, 0] (V (Proc.devRef .tc main_arg11)) hw) shapeCasts_S1x256x256_S256x256)
    (shapeCast S256 (extractStridedSlice S1x256 ![l, 0] (V (Proc.devRef .tc main_arg12)) hb) shapeCasts_S1x256_S256) v

variable (V : Valuation τ sig (Elt Ideal))

/-! ### The network's weights, by name -/

def fwV (l : Fin 2) (r : Fin 3) (k : Fin 256) (n : Fin 128) : EReal := V (Proc.devRef .tc main_arg7) (ix4 l r k n)
def fbV (l : Fin 2) (r : Fin 3) (n : Fin 128) : EReal := V (Proc.devRef .tc main_arg8) (ix3 l r n)
def bwV (l : Fin 2) (r : Fin 3) (k : Fin 256) (n : Fin 128) : EReal := V (Proc.devRef .tc main_arg9) (ix4 l r k n)
def bbV (l : Fin 2) (r : Fin 3) (n : Fin 128) : EReal := V (Proc.devRef .tc main_arg10) (ix3 l r n)
def lwV (l : Fin 2) (k n : Fin 256) : EReal := V (Proc.devRef .tc main_arg11) (ix3 l k n)
def lbV (l : Fin 2) (n : Fin 256) : EReal := V (Proc.devRef .tc main_arg12) (ix2 l n)

theorem relL_at (A v : FVec Ideal S256x256 .f32) (l : Fin 2) (r : Fin 3) (h4 : S2x3x256x128.Slices ![l.val, r.val, 0, 0] S1x1x256x128)
    (h3 : S2x3x128.Slices ![l.val, r.val, 0] S1x1x128) (i n : Fin 256) :
    relL V A v l.val r.val h4 h3 (ix2 i n) = Spec.rel (fun i j => A (ix2 i j)) (fwV V l r) (fbV V l r) (bwV V l r) (bbV V l r)
      (fun i j => v (ix2 i j)) i n := by
  refine (relH_at A v _ _ _ _ i n).trans ?_
  unfold Spec.rel
  split
  · exact Spec.conv_congr (fun _ _ => rfl) (fun _ _ => rfl) (fun k n => w4_at _ l r h4 k n) (fun n => b3_at _ l r h3 n) _ _
  · exact Spec.conv_congr (fun _ _ => rfl) (fun _ _ => rfl) (fun k n => w4_at _ l r h4 k n) (fun n => b3_at _ l r h3 n) _ _

theorem layL_at (A : Fin 3 → FVec Ideal S256x256 .f32) (v : FVec Ideal S256x256 .f32) (l : Fin 2)
    (h4 : ∀ r : Fin 3, S2x3x256x128.Slices ![l.val, r.val, 0, 0] S1x1x256x128) (h3 : ∀ r : Fin 3, S2x3x128.Slices ![l.val, r.val, 0] S1x1x128)
    (hw : S2x256x256.Slices ![l.val, 0, 0] S1x256x256) (hb : S2x256.Slices ![l.val, 0] S1x256) (i n : Fin 256) :
    layL V (A 0) (A 1) (A 2) v l.val h4 h3 hw hb (ix2 i n) = Spec.layer (fun r i j => A r (ix2 i j)) (fwV V l) (fbV V l) (bwV V l) (bbV V l)
      (lwV V l) (lbV V l) (fun i j => v (ix2 i j)) i n := by
  refine (layH_at _ _ _ _ _ v i n).trans ?_
  exact Spec.layer_of (a := fun r i k => relL V (A r) v l.val r.val (h4 r) (h3 r) (ix2 i k)) (fun r i k => relL_at V (A r) v l r (h4 r) (h3 r) i k)
    (fun k n => l3_at _ l hw k n) (fun n => l2_at _ l hb n) i n

/-- The first layer's result. -/
theorem v121_eq : res_main_v121 V = layL V (res_main_v42 V) (res_main_v66 V) (res_main_v90 V) (V (Proc.devRef .tc main_arg0)) 0
    (by decide) (by decide) (by decide) (by decide) := by
  unfold res_main_v121 res_main_v111
  rfl

end Cert.ReferenceIdeal.Value
-- ==== Proof.RefProbs.lean ====
/- The reference's relation probabilities, element by element. -/
module

public import proofs.«01_k».proof.Proof.Gen.ReferenceIdeal.Run
public import proofs.«01_k».proof.Proof.Spec
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.StableHlo Idealize.ShloMosaic.TcCoe Idealize.ShloMosaic.Tactic

variable (V : Valuation τ sig (Elt Ideal))

/-! ## The scorer's arguments, by name -/

def xV (i j : Fin 256) : EReal := V (Proc.devRef .tc main_arg0) (ix2 i j)
def w0V (k : Fin 768) (h : Fin 512) : EReal := V (Proc.devRef .tc main_arg1) (ix2 k h)
def b0V (h : Fin 512) : EReal := V (Proc.devRef .tc main_arg2) (ix1 h)
def w1V (k h : Fin 512) : EReal := V (Proc.devRef .tc main_arg3) (ix2 k h)
def b1V (h : Fin 512) : EReal := V (Proc.devRef .tc main_arg4) (ix1 h)
def woV (k : Fin 512) (r : Fin 3) : EReal := V (Proc.devRef .tc main_arg5) (ix2 k r)
def boV (r : Fin 3) : EReal := V (Proc.devRef .tc main_arg6) (ix1 r)

theorem v1_at (i j k : Fin 256) : res_main_v1 V (ix3 i j k) = xV V j k := by
  unfold res_main_v1; clean_types; pointwise; rfl
theorem v3_at (i j k : Fin 256) : res_main_v3 V (ix3 i j k) = xV V i k := by
  unfold res_main_v3; clean_types; pointwise; rfl

/-- A sum over 768 terms in three parts of 256. -/
theorem sum_three (f : Fin 768 → EReal) : ∑ k : Fin 768, f k = (∑ k : Fin 256, f ⟨k.val, by omega⟩) + (∑ k : Fin 256, f ⟨256 + k.val, by omega⟩)
    + ∑ k : Fin 256, f ⟨512 + k.val, by omega⟩ := by
  refine (Fin.sum_univ_add (a := 512) (b := 256) f).trans (congrArg₂ (· + ·) ?_ rfl)
  exact Fin.sum_univ_add (a := 256) (b := 256) fun k => f (Fin.castAdd 256 k)

/-- The pair's features under the first layer. -/
def hidH (x1 x3 : FVec Ideal S256x256x256 .f32) (W0 : FVec Ideal S768x512 .f32) (b0 : FVec Ideal S512 .f32) : FVec Ideal S256x256x512 .f32 :=
  maximumf (addf (Host.dotGeneral dot_S256x256x768_S768x512_S256x256x512_2_0_01_1_n_n none (concatenate S256x256x768 2 [⟨S256x256x256, x1⟩, ⟨S256x256x256, x3⟩, ⟨S256x256x256, mulf x1 x3⟩] concatenates_S256x256x256_S256x256x256_S256x256x256_S256x256x768_d2) W0) (broadcastInDim S256x256x512 ![0, 1, 2] bcast_S1x1x512_S256x256x512_0_1_2 (broadcastInDim S1x1x512 ![2] bcast_S512_S1x1x512_2 b0))) (broadcastInDim S256x256x512 ![] bcast_S_S256x256x512 (constant S_ .f32 0x00000000#32))

theorem hidH_at (x1 x3 : FVec Ideal S256x256x256 .f32) (W0 : FVec Ideal S768x512 .f32) (b0 : FVec Ideal S512 .f32) (i j : Fin 256) (h : Fin 512) :
    hidH x1 x3 W0 b0 (ix3 i j h) = max ((∑ k : Fin 256, x1 (ix3 i j k) * W0 (ix2 ⟨k.val, by omega⟩ h))
      + (∑ k : Fin 256, x3 (ix3 i j k) * W0 (ix2 ⟨256 + k.val, by omega⟩ h))
      + (∑ k : Fin 256, x1 (ix3 i j k) * x3 (ix3 i j k) * W0 (ix2 ⟨512 + k.val, by omega⟩ h)) + b0 (ix1 h)) 0 := by
  pointwise [hidH]
  rw [sum_three]
  refine congrArg (fun a => max (a + b0 (ix1 h)) 0) (congrArg₂ (· + ·) (congrArg₂ (· + ·) ?_ ?_) ?_)
  · exact Finset.sum_congr rfl fun k _ => by rw [dif_pos k.isLt]
  · refine Finset.sum_congr rfl fun k _ => ?_
    rw [dif_neg (by show ¬256 + k.val < 256; omega), dif_pos (by show 256 + k.val - 256 < 256; omega)]
    refine congrArg (fun q => x3 (ix3 i j q) * _) (Fin.ext ?_)
    show 256 + k.val - 256 = k.val
    omega
  · refine Finset.sum_congr rfl fun k _ => ?_
    rw [dif_neg (by show ¬512 + k.val < 256; omega), dif_neg (by show ¬512 + k.val - 256 < 256; omega)]
    refine congrArg (fun q => x1 (ix3 i j q) * x3 (ix3 i j q) * _) (Fin.ext ?_)
    show 512 + k.val - 256 - 256 = k.val
    omega

/-- The second layer. -/
def hid1H (g : FVec Ideal S256x256x512 .f32) (W1 : FVec Ideal S512x512 .f32) (b1 : FVec Ideal S512 .f32) : FVec Ideal S256x256x512 .f32 :=
  maximumf (addf (Host.dotGeneral dot_S256x256x512_S512x512_S256x256x512_2_0_01_1_n_n none g W1) (broadcastInDim S256x256x512 ![0, 1, 2] bcast_S1x1x512_S256x256x512_0_1_2 (broadcastInDim S1x1x512 ![2] bcast_S512_S1x1x512_2 b1))) (broadcastInDim S256x256x512 ![] bcast_S_S256x256x512 (constant S_ .f32 0x00000000#32))

theorem hid1H_at (g : FVec Ideal S256x256x512 .f32) (W1 : FVec Ideal S512x512 .f32) (b1 : FVec Ideal S512 .f32) (i j : Fin 256) (h : Fin 512) :
    hid1H g W1 b1 (ix3 i j h) = Spec.hid1 (fun k => g (ix3 i j k)) (fun k h => W1 (ix2 k h)) (fun h => b1 (ix1 h)) h := by
  unfold Spec.hid1; pointwise [hid1H]

/-- The scores. -/
def linH (g : FVec Ideal S256x256x512 .f32) (Wo : FVec Ideal S512x3 .f32) (bo : FVec Ideal S3 .f32) : FVec Ideal S256x256x3 .f32 :=
  addf (Host.dotGeneral dot_S256x256x512_S512x3_S256x256x3_2_0_01_1_n_n none g Wo) (broadcastInDim S256x256x3 ![0, 1, 2] bcast_S1x1x3_S256x256x3_0_1_2 (broadcastInDim S1x1x3 ![2] bcast_S3_S1x1x3_2 bo))

theorem linH_at (g : FVec Ideal S256x256x512 .f32) (Wo : FVec Ideal S512x3 .f32) (bo : FVec Ideal S3 .f32) (i j : Fin 256) (r : Fin 3) :
    linH g Wo bo (ix3 i j r) = Spec.lin (fun k => g (ix3 i j k)) (fun k r => Wo (ix2 k r)) (fun r => bo (ix1 r)) r := by
  unfold Spec.lin; pointwise [linH]

theorem v19_eq : res_main_v19 V = linH (hid1H (hidH (res_main_v1 V) (res_main_v3 V) (V (Proc.devRef .tc main_arg1)) (V (Proc.devRef .tc main_arg2)))
    (V (Proc.devRef .tc main_arg3)) (V (Proc.devRef .tc main_arg4))) (V (Proc.devRef .tc main_arg5)) (V (Proc.devRef .tc main_arg6)) := by
  unfold res_main_v19; rfl

/-- The scores of the arguments. -/
def scoresV : Fin 256 → Fin 256 → Fin 3 → EReal := Spec.score (xV V) (w0V V) (b0V V) (w1V V) (b1V V) (woV V) (boV V)

theorem v19_at (i j : Fin 256) (r : Fin 3) : res_main_v19 V (ix3 i j r) = scoresV V i j r := by
  refine (congrFun (v19_eq V) _).trans ((linH_at _ _ _ i j r).trans ?_)
  refine congrArg (fun g => Spec.lin g (woV V) (boV V) r) (funext fun k => (hid1H_at _ _ _ i j k).trans ?_)
  refine congrArg (fun g => Spec.hid1 g (w1V V) (b1V V) k) (funext fun h => (hidH_at _ _ _ _ i j h).trans ?_)
  simp only [v1_at, v3_at]
  rfl

/-! ## The softmax -/

/-- Each score's power against the greatest score of its pair. -/
def expH (s : FVec Ideal S256x256x3 .f32) : FVec Ideal S256x256x3 .f32 :=
  Host.exp (subf s (broadcastInDim S256x256x3 ![0, 1, 2] bcast_S256x256x1_S256x256x3_0_1_2 (broadcastInDim S256x256x1 ![0, 1] bcast_S256x256_S256x256x1_0_1 (maximumf (broadcastInDim S256x256 ![] bcast_S_S256x256 (constant S_ .f32 0xFF800000#32)) (Host.reduce FloatOps.maximumf s (constant S_ .f32 0xFF800000#32) reducesTo_S256x256x3_S256x256_d2 h_S_)))))

theorem expH_at (s : FVec Ideal S256x256x3 .f32) (i j : Fin 256) (r : Fin 3) :
    expH s (ix3 i j r) = Ideal.exp (s (ix3 i j r) - Spec.top fun q => s (ix3 i j q)) := by
  unfold Spec.top
  pointwise [expH]
  have hb : Ideal.ofBits .f32 0xFF800000#32 = ⊥ := by simp [Ideal.ofBits, Ideal.ieee]
  have hf : ∀ f : Fin 3 → EReal, Finset.fold max ⊥ f Finset.univ = max (max (f 0) (f 1)) (f 2) := fun f => by
    rw [show (Finset.univ : Finset (Fin 3)) = {0, 1, 2} from rfl]
    simp [max_assoc]
  rw [hb, hf]
  simp

/-- The probabilities. -/
def probH (e : FVec Ideal S256x256x3 .f32) : FVec Ideal S256x256x3 .f32 :=
  Host.divf e (broadcastInDim S256x256x3 ![0, 1, 2] bcast_S256x256x1_S256x256x3_0_1_2 (broadcastInDim S256x256x1 ![0, 1] bcast_S256x256_S256x256x1_0_1 (Host.reduceAdd e (constant S_ .f32 0x00000000#32) reducesTo_S256x256x3_S256x256_d2 h_S_)))

theorem probH_at (e : FVec Ideal S256x256x3 .f32) (i j : Fin 256) (r : Fin 3) :
    probH e (ix3 i j r) = Ideal.div (e (ix3 i j r)) (e (ix3 i j 0) + e (ix3 i j 1) + e (ix3 i j 2)) := by
  pointwise [probH]
  rw [Fin.sum_univ_three]

theorem v30_eq : res_main_v30 V = probH (expH (res_main_v19 V)) := by
  unfold res_main_v30 res_main_v26; rfl

theorem v30_at (i j : Fin 256) (r : Fin 3) : res_main_v30 V (ix3 i j r) = Spec.prob (scoresV V i j) r := by
  refine (congrFun (v30_eq V) _).trans ((probH_at _ i j r).trans ?_)
  have e : ∀ q, expH (res_main_v19 V) (ix3 i j q) = Ideal.exp (scoresV V i j q - Spec.top (scoresV V i j)) := fun q => by
    refine (expH_at _ i j q).trans ?_
    have h : (fun q => res_main_v19 V (ix3 i j q)) = scoresV V i j := funext fun q => v19_at V i j q
    exact congrArg₂ (fun a b => Ideal.exp (a - Spec.top b)) (v19_at V i j q) h
  rw [e, e, e, e]
  rfl

/-! ## The mask and the adjacencies -/

/-- The mask. -/
def maskH : FVec Ideal S256x256 .f32 :=
  subf (broadcastInDim S256x256 ![] bcast_S_S256x256 (constant S_ .f32 0x3F800000#32)) (uitofp .f32 (cmpi .eq (addi (iotaInDim S256x256 32 0) (broadcastInDim S256x256 ![] bcast_S_S256x256 (constantI S_ 32 0#32))) (iotaInDim S256x256 32 1)))

theorem maskH_at (i j : Fin 256) : maskH (ix2 i j) = if i = j then 0 else 1 := by
  pointwise [maskH]
  have h : IntOp.cmpi CmpIPredicate.eq (IntOp.addi (BitVec.ofNat 32 i.val) 0#32) (BitVec.ofNat 32 j.val) = if i = j then 1#1 else 0#1 := by
    have hi : (BitVec.ofNat 32 i.val = BitVec.ofNat 32 j.val) ↔ i = j := by
      refine ⟨fun h => Fin.ext ?_, fun h => h ▸ rfl⟩
      have := congrArg BitVec.toNat h
      simp only [BitVec.toNat_ofNat] at this
      omega
    by_cases hij : i = j
    · simp [IntOp.cmpi, IntOp.addi, hij]
    · simp [IntOp.cmpi, IntOp.addi, hij, beq_eq_false_iff_ne.2 (mt hi.1 hij)]
  rw [h]
  have h11 : (1 : EReal) - 1 = 0 := by rw [← EReal.coe_one, ← EReal.coe_sub, sub_self, EReal.coe_zero]
  split <;> simp [FloatOps.uitofp, h11]

theorem v38_eq : res_main_v38 V = maskH := by
  unfold res_main_v38; rfl

/-- One relation's probabilities under the mask. -/
def adjH (p : FVec Ideal S256x256x3 .f32) (k : FVec Ideal S256x256 .f32) (r : ℕ) (h : S256x256x3.Slices ![0, 0, r] S256x256x1) : FVec Ideal S256x256 .f32 :=
  mulf (shapeCast S256x256 (extractStridedSlice S256x256x1 ![0, 0, r] p h) shapeCasts_S256x256x1_S256x256) k

theorem adjH_at (p : FVec Ideal S256x256x3 .f32) (k : FVec Ideal S256x256 .f32) (r : Fin 3) (h : S256x256x3.Slices ![0, 0, r.val] S256x256x1)
    (i j : Fin 256) : adjH p k r.val h (ix2 i j) = p (ix3 i j r) * k (ix2 i j) := by
  pointwise [adjH]

theorem adj_at (r : Fin 3) (h : S256x256x3.Slices ![0, 0, r.val] S256x256x1) (i j : Fin 256) :
    adjH (res_main_v30 V) (res_main_v38 V) r.val h (ix2 i j) = Spec.adj (scoresV V) r i j := by
  refine (adjH_at _ _ r h i j).trans ?_
  refine (congrArg₂ (fun a b : EReal => a * b) (v30_at V i j r) ((congrFun (v38_eq V) _).trans (maskH_at i j))).trans ?_
  unfold Spec.adj
  by_cases hij : i = j
  · rw [if_pos hij, if_pos hij]; exact mul_zero _
  · rw [if_neg hij, if_neg hij]; exact mul_one _

end Cert.ReferenceIdeal.Value
-- ==== Proof.RefValue.lean ====
/- The reference's result, element by element of its arguments. -/
module

public import proofs.«01_k».proof.Proof.RefGcn
public import proofs.«01_k».proof.Proof.RefProbs

@[expose] public section

set_option maxRecDepth 16384

noncomputable section

namespace Cert.ReferenceIdeal.Value

open Cert.ReferenceIdeal Cert.ReferenceIdeal.Gen
open Idealize.ShloMosaic Idealize.ShloMosaic.StableHlo Idealize.ShloMosaic.TcCoe Idealize.ShloMosaic.Tactic

variable (V : Valuation τ sig (Elt Ideal))

/-- The three masked adjacencies. -/
def adjV (r : Fin 3) : FVec Ideal S256x256 .f32 :=
  adjH (res_main_v30 V) (res_main_v38 V) r.val ((by decide : ∀ r : Fin 3, S256x256x3.Slices ![0, 0, r.val] S256x256x1) r)

theorem adjV_at : (fun (r : Fin 3) (i j : Fin 256) => adjV V r (ix2 i j)) = Spec.adj (scoresV V) :=
  funext fun r => funext fun i => funext fun j => adj_at V r _ i j

/-- The first layer's result, element by element. -/
theorem v121_at (i n : Fin 256) : res_main_v121 V (ix2 i n) = Spec.layer (Spec.adj (scoresV V)) (fwV V 0) (fbV V 0) (bwV V 0) (bbV V 0) (lwV V 0)
    (lbV V 0) (xV V) i n := by
  have e : res_main_v121 V = layL V (adjV V 0) (adjV V 1) (adjV V 2) (V (Proc.devRef .tc main_arg0)) (0 : Fin 2).val
      (by decide) (by decide) (by decide) (by decide) := by
    refine (v121_eq V).trans ?_
    unfold res_main_v42 res_main_v66 res_main_v90; rfl
  refine (congrFun e _).trans ((layL_at V (adjV V) _ 0 _ _ _ _ i n).trans ?_)
  rw [adjV_at]
  rfl

/-- The result's term. -/
def resultV : FVec Ideal S256x256 .f32 :=
  layL V (adjV V 0) (adjV V 1) (adjV V 2) (res_main_v121 V) (1 : Fin 2).val (by decide) (by decide) (by decide) (by decide)

theorem resultV_eq : resultV V = fun i : S256x256.Idx => Spec.gcn (Spec.adj (scoresV V)) (fwV V) (fbV V) (bwV V) (bbV V) (lwV V) (lbV V) (xV V)
    (i 0) (i 1) := by
  funext y
  let i : Fin 256 := y 0
  let n : Fin 256 := y 1
  have hy : y = ix2 i n := eq_ix2 (n0 := 256) (n1 := 256) y
  refine (congrArg (resultV V) hy).trans ((layL_at V (adjV V) _ 1 _ _ _ _ i n).trans ?_)
  rw [adjV_at]
  have e : (fun i j : Fin 256 => res_main_v121 V (ix2 i j)) = Spec.layer (Spec.adj (scoresV V)) (fwV V 0) (fbV V 0) (bwV V 0) (bbV V 0) (lwV V 0)
    (lbV V 0) (xV V) := funext fun i => funext fun j => v121_at V i j
  exact congrArg (fun v => Spec.layer (Spec.adj (scoresV V)) (fwV V 1) (fbV V 1) (bwV V 1) (bbV V 1) (lwV V 1) (lbV V 1) v i n) e

variable (m : (ℓ : Loc nD τ sig) → Buf (Elt Ideal) ℓ) (ρ : Dev nD → PrngReg)

/-- The reference's run: its result at the layers' values, its arguments unchanged. -/
theorem run_value : θ_run defs (onTc (τ := τ) (main (F := Ideal))) ⟨m, fun _ => 0, ρ⟩ fun r => ∀ c : Dev nD,
    r.2.mem ((c.tc : Thread nD τ).loc main_v204) = resultV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (run (F := Ideal) m ρ)
  refine ⟨(h c).1.trans ?_, (h c).2⟩
  unfold resultV res_main_v194 res_main_v125 res_main_v149 res_main_v173
  rfl

end Cert.ReferenceIdeal.Value
-- ==== Proof.Pre.lean ====
/- What the precondition says of the arguments: the scorer's inputs are real numbers. -/
module

public import proofs.«01_k».proof.Defs
public import proofs.«01_k».proof.Proof.Spec
public import Idealize.ShloMosaic.Lib.Pointwise

@[expose] public section

set_option maxRecDepth 16384

noncomputable section

namespace Cert.Pre

open Idealize.ShloMosaic Idealize.ShloMosaic.TcCoe

/-- The shape relations the precondition's text takes. -/
instance facts : Cert.Pre_finite.Facts where
  bcast_S_S256x256 := by decide
  bcast_S_S768x512 := by decide
  bcast_S_S512 := by decide
  bcast_S_S512x512 := by decide
  bcast_S_S512x3 := by decide
  bcast_S_S3 := by decide

/-- An array whose every magnitude compares below infinity holds real numbers. -/
theorem real_of {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32 : FVec Ideal Cert.Pre_finite.S_ .f32)) = fun _ => 1#1)
    (i : s.Idx) : Spec.IsR (x i) := by
  have h1 : Ideal.cmp .olt (max (x i) (-(x i))) (Ideal.ofBits .f32 0x7F800000#32) = 1#1 := congrFun h i
  have ht : Ideal.ofBits .f32 0x7F800000#32 = ⊤ := by simp [Ideal.ofBits, Ideal.ieee]
  rw [ht] at h1
  refine Spec.IsR.of_abs ?_
  by_contra hn
  simp [Ideal.cmp, hn] at h1

variable (m : (ℓ : Loc Cert.KernelIdeal.nD Cert.KernelIdeal.τ Cert.KernelIdeal.sig) → Buf (Elt Ideal) ℓ)

theorem reals [hK : Cert.KernelIdeal.Facts] (h : Cert.Pre_KernelIdeal_finite m) (c : Dev Cert.KernelIdeal.nD) :
    (∀ i : Cert.Pre_finite.S256x256.Idx, Spec.IsR (m (c.tc.loc Cert.KernelIdeal.main_arg0) i))
    ∧ (∀ i : Cert.Pre_finite.S768x512.Idx, Spec.IsR (m (c.tc.loc Cert.KernelIdeal.main_arg1) i))
    ∧ (∀ i : Cert.Pre_finite.S512.Idx, Spec.IsR (m (c.tc.loc Cert.KernelIdeal.main_arg2) i))
    ∧ (∀ i : Cert.Pre_finite.S512x512.Idx, Spec.IsR (m (c.tc.loc Cert.KernelIdeal.main_arg3) i))
    ∧ (∀ i : Cert.Pre_finite.S512.Idx, Spec.IsR (m (c.tc.loc Cert.KernelIdeal.main_arg4) i))
    ∧ (∀ i : Cert.Pre_finite.S512x3.Idx, Spec.IsR (m (c.tc.loc Cert.KernelIdeal.main_arg5) i))
    ∧ (∀ i : Cert.Pre_finite.S3.Idx, Spec.IsR (m (c.tc.loc Cert.KernelIdeal.main_arg6) i)) := by
  obtain ⟨h0, h1, h2, h3, h4, h5, h6⟩ := h c
  exact ⟨real_of _ _ h0, real_of _ _ h1, real_of _ _ h2, real_of _ _ h3, real_of _ _ h4, real_of _ _ h5, real_of _ _ h6⟩

end Cert.Pre
-- ==== Proof.Algebraic.lean ====
/- The idealized kernel and the reference end with one result. -/
module

public import proofs.«01_k».proof.Proof.Frames
public import proofs.«01_k».proof.Proof.HostValue
public import proofs.«01_k».proof.Proof.RefValue
public import proofs.«01_k».proof.Proof.Pre

@[expose] public section

set_option maxRecDepth 16384

noncomputable section

namespace Cert.Algebraic

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Under the precondition every score is a real number. -/
theorem scores_real (h : Cert.Pre_KernelIdeal_finite m) (c : Dev Cert.KernelIdeal.nD) (i j : Fin 256) (r : Fin 3) :
    Spec.IsR (Cert.KernelIdeal.Whole.scoresM m c i j r) := by
  obtain ⟨h0, h1, h2, h3, h4, h5, h6⟩ := Pre.reals m h c
  exact Spec.score_real (fun _ _ => h0 _) (fun _ _ => h1 _) (fun _ => h2 _) (fun _ _ => h3 _) (fun _ => h4 _) (fun _ _ => h5 _) (fun _ => h6 _) i j r

/-- The reference's result on the kernel's arguments is the kernel's. -/
theorem result_eq (c : Dev Cert.KernelIdeal.nD) (hs : ∀ i j r, Spec.IsR (Cert.KernelIdeal.Whole.scoresM m c i j r))
    (e0 : m' ((c.tc : Thread Cert.ReferenceIdeal.nD Cert.ReferenceIdeal.τ).loc Cert.ReferenceIdeal.main_arg0) = m (c.tc.loc Cert.KernelIdeal.main_arg0))
    (e1 : m' ((c.tc : Thread Cert.ReferenceIdeal.nD Cert.ReferenceIdeal.τ).loc Cert.ReferenceIdeal.main_arg1) = m (c.tc.loc Cert.KernelIdeal.main_arg1))
    (e2 : m' ((c.tc : Thread Cert.ReferenceIdeal.nD Cert.ReferenceIdeal.τ).loc Cert.ReferenceIdeal.main_arg2) = m (c.tc.loc Cert.KernelIdeal.main_arg2))
    (e3 : m' ((c.tc : Thread Cert.ReferenceIdeal.nD Cert.ReferenceIdeal.τ).loc Cert.ReferenceIdeal.main_arg3) = m (c.tc.loc Cert.KernelIdeal.main_arg3))
    (e4 : m' ((c.tc : Thread Cert.ReferenceIdeal.nD Cert.ReferenceIdeal.τ).loc Cert.ReferenceIdeal.main_arg4) = m (c.tc.loc Cert.KernelIdeal.main_arg4))
    (e5 : m' ((c.tc : Thread Cert.ReferenceIdeal.nD Cert.ReferenceIdeal.τ).loc Cert.ReferenceIdeal.main_arg5) = m (c.tc.loc Cert.KernelIdeal.main_arg5))
    (e6 : m' ((c.tc : Thread Cert.ReferenceIdeal.nD Cert.ReferenceIdeal.τ).loc Cert.ReferenceIdeal.main_arg6) = m (c.tc.loc Cert.KernelIdeal.main_arg6))
    (e7 : m' ((c.tc : Thread Cert.ReferenceIdeal.nD Cert.ReferenceIdeal.τ).loc Cert.ReferenceIdeal.main_arg7) = m (c.tc.loc Cert.KernelIdeal.main_arg7))
    (e8 : m' ((c.tc : Thread Cert.ReferenceIdeal.nD Cert.ReferenceIdeal.τ).loc Cert.ReferenceIdeal.main_arg8) = m (c.tc.loc Cert.KernelIdeal.main_arg8))
    (e9 : m' ((c.tc : Thread Cert.ReferenceIdeal.nD Cert.ReferenceIdeal.τ).loc Cert.ReferenceIdeal.main_arg9) = m (c.tc.loc Cert.KernelIdeal.main_arg9))
    (e10 : m' ((c.tc : Thread Cert.ReferenceIdeal.nD Cert.ReferenceIdeal.τ).loc Cert.ReferenceIdeal.main_arg10) = m (c.tc.loc Cert.KernelIdeal.main_arg10))
    (e11 : m' ((c.tc : Thread Cert.ReferenceIdeal.nD Cert.ReferenceIdeal.τ).loc Cert.ReferenceIdeal.main_arg11) = m (c.tc.loc Cert.KernelIdeal.main_arg11))
    (e12 : m' ((c.tc : Thread Cert.ReferenceIdeal.nD Cert.ReferenceIdeal.τ).loc Cert.ReferenceIdeal.main_arg12) = m (c.tc.loc Cert.KernelIdeal.main_arg12)) :
    Cert.ReferenceIdeal.Value.resultV (StableHlo.launchContents m' c) = Cert.KernelIdeal.Whole.resultArr m c := by
  refine (Cert.ReferenceIdeal.Value.resultV_eq _).trans (Eq.trans ?_ (Cert.KernelIdeal.Whole.result_at m c hs).symm)
  have hx : Cert.ReferenceIdeal.Value.xV (StableHlo.launchContents m' c) = Cert.KernelIdeal.Whole.xM m c := funext₂ fun i j => congrFun e0 (ix2 i j)
  have hw0 : Cert.ReferenceIdeal.Value.w0V (StableHlo.launchContents m' c) = Cert.KernelIdeal.Whole.w0M m c := funext₂ fun i j => congrFun e1 (ix2 i j)
  have hb0 : Cert.ReferenceIdeal.Value.b0V (StableHlo.launchContents m' c) = Cert.KernelIdeal.Whole.b0M m c := funext fun i => congrFun e2 (ix1 i)
  have hw1 : Cert.ReferenceIdeal.Value.w1V (StableHlo.launchContents m' c) = Cert.KernelIdeal.Whole.w1M m c := funext₂ fun i j => congrFun e3 (ix2 i j)
  have hb1 : Cert.ReferenceIdeal.Value.b1V (StableHlo.launchContents m' c) = Cert.KernelIdeal.Whole.b1M m c := funext fun i => congrFun e4 (ix1 i)
  have hwo : Cert.ReferenceIdeal.Value.woV (StableHlo.launchContents m' c) = Cert.KernelIdeal.Whole.woM m c := funext₂ fun i j => congrFun e5 (ix2 i j)
  have hbo : Cert.ReferenceIdeal.Value.boV (StableHlo.launchContents m' c) = Cert.KernelIdeal.Whole.boM m c := funext fun i => congrFun e6 (ix1 i)
  have hsc : Cert.ReferenceIdeal.Value.scoresV (StableHlo.launchContents m' c) = Cert.KernelIdeal.Whole.scoresM m c := by
    unfold Cert.ReferenceIdeal.Value.scoresV Cert.KernelIdeal.Whole.scoresM
    rw [hx, hw0, hb0, hw1, hb1, hwo, hbo]
  have h7 : Cert.ReferenceIdeal.Value.fwV (StableHlo.launchContents m' c) = fun l r k n => m (c.tc.loc Cert.KernelIdeal.main_arg7) (ix4 l r k n) :=
    funext fun l => funext fun r => funext₂ fun k n => congrFun e7 (ix4 l r k n)
  have h8 : Cert.ReferenceIdeal.Value.fbV (StableHlo.launchContents m' c) = fun l r n => m (c.tc.loc Cert.KernelIdeal.main_arg8) (ix3 l r n) :=
    funext fun l => funext₂ fun r n => congrFun e8 (ix3 l r n)
  have h9 : Cert.ReferenceIdeal.Value.bwV (StableHlo.launchContents m' c) = fun l r k n => m (c.tc.loc Cert.KernelIdeal.main_arg9) (ix4 l r k n) :=
    funext fun l => funext fun r => funext₂ fun k n => congrFun e9 (ix4 l r k n)
  have h10 : Cert.ReferenceIdeal.Value.bbV (StableHlo.launchContents m' c) = fun l r n => m (c.tc.loc Cert.KernelIdeal.main_arg10) (ix3 l r n) :=
    funext fun l => funext₂ fun r n => congrFun e10 (ix3 l r n)
  have h11 : Cert.ReferenceIdeal.Value.lwV (StableHlo.launchContents m' c) = fun l k n => m (c.tc.loc Cert.KernelIdeal.main_arg11) (ix3 l k n) :=
    funext fun l => funext₂ fun k n => congrFun e11 (ix3 l k n)
  have h12 : Cert.ReferenceIdeal.Value.lbV (StableHlo.launchContents m' c) = fun l n => m (c.tc.loc Cert.KernelIdeal.main_arg12) (ix2 l n) :=
    funext₂ fun l n => congrFun e12 (ix2 l n)
  rw [hsc, h7, h8, h9, h10, h11, h12, hx]

/-- From equal arguments under the precondition both programs end with one result, their arguments unchanged. -/
theorem algebraic : Cert.algebraic_KernelIdeal_ReferenceIdeal_pre_finite := fun m g m' g' hp he =>
  ⟨fun c => Cert.KernelIdeal.Whole.resultArr m c,
    (θ_run _ _ _).mono (fun _ h => h.1) (Cert.KernelIdeal.Whole.run_value (F := Ideal) m g),
    (θ_run Cert.ReferenceIdeal.defs _ _).mono (fun r h c => by
      obtain ⟨e0, e1, e2, e3, e4, e5, e6, e7, e8, e9, e10, e11, e12⟩ := he c
      exact ⟨(h c).1.trans (result_eq m m' c (scores_real m hp c) e0 e1 e2 e3 e4 e5 e6 e7 e8 e9 e10 e11 e12), (h c).2⟩)
      (Cert.ReferenceIdeal.Value.run_value m' g')⟩

/-- The idealized kernel's frame under the precondition. -/
theorem kernelIdeal_finite : Cert.quiescent_KernelIdeal_pre_finite := fun m g _ => Frames.kernelIdeal m g trivial
/-- The reference's frame under the precondition. -/
theorem reference_finite : Cert.quiescent_ReferenceIdeal_pre_finite := fun m g _ => Frames.reference m g trivial

end Cert.Algebraic
-- ==== Proof.lean ====
/- The claims, each from the module that proves it. -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

/-- Every claim of the certificate. -/
theorem claim : Cert.Claim := ⟨Cert.Kernel.Gen.facts, Cert.KernelIdeal.Gen.facts, Cert.ReferenceIdeal.Gen.facts, Pre.facts,
  Frames.kernel, Frames.kernelIdeal, Algebraic.kernelIdeal_finite, Frames.reference, Algebraic.reference_finite, trivial, Algebraic.algebraic⟩

end Cert.Proof

end
